-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)) →
    ∃ (v0 : (c : Dev Cert.PleKernelIdeal.nD) → Buf (Elt Ideal) ((c.tc : Thread Cert.PleKernelIdeal.nD Cert.PleKernelIdeal.τ).loc Cert.PleKernelIdeal.main_v4)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v4) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v35) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)) →
    ∃ (v0 : (c : Dev Cert.MixKernelIdeal.nD) → Buf (Elt Ideal) ((c.tc : Thread Cert.MixKernelIdeal.nD Cert.MixKernelIdeal.τ).loc Cert.MixKernelIdeal.main_v23_0)) (v1 : (c : Dev Cert.MixKernelIdeal.nD) → Buf (Elt Ideal) ((c.tc : Thread Cert.MixKernelIdeal.nD Cert.MixKernelIdeal.τ).loc Cert.MixKernelIdeal.main_v23_1)) (v2 : (c : Dev Cert.MixKernelIdeal.nD) → Buf (Elt Ideal) ((c.tc : Thread Cert.MixKernelIdeal.nD Cert.MixKernelIdeal.τ).loc Cert.MixKernelIdeal.main_v23_2)) (v3 : (c : Dev Cert.MixKernelIdeal.nD) → Buf (Elt Ideal) ((c.tc : Thread Cert.MixKernelIdeal.nD Cert.MixKernelIdeal.τ).loc Cert.MixKernelIdeal.main_v23_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v23_0) = v0 c
          ∧ r.2.mem ((c.tc : Thread Cert.MixKernelIdeal.nD Cert.MixKernelIdeal.τ).loc Cert.MixKernelIdeal.main_v23_1) = v1 c
          ∧ r.2.mem ((c.tc : Thread Cert.MixKernelIdeal.nD Cert.MixKernelIdeal.τ).loc Cert.MixKernelIdeal.main_v23_2) = v2 c
          ∧ r.2.mem ((c.tc : Thread Cert.MixKernelIdeal.nD Cert.MixKernelIdeal.τ).loc Cert.MixKernelIdeal.main_v23_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v102) = v0 c
          ∧ r.2.mem ((c.tc : Thread Cert.MixReferenceIdeal.nD Cert.MixReferenceIdeal.τ).loc Cert.MixReferenceIdeal.main_v104) = v1 c
          ∧ r.2.mem ((c.tc : Thread Cert.MixReferenceIdeal.nD Cert.MixReferenceIdeal.τ).loc Cert.MixReferenceIdeal.main_v106) = v2 c
          ∧ r.2.mem ((c.tc : Thread Cert.MixReferenceIdeal.nD Cert.MixReferenceIdeal.τ).loc Cert.MixReferenceIdeal.main_v100) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def Claim : Prop :=
  ∃ (hKernel : Cert.Kernel.Facts) (hKernelIdeal : Cert.KernelIdeal.Facts) (hReferenceIdeal : Cert.ReferenceIdeal.Facts) (hPleKernel : Cert.PleKernel.Facts) (hPleKernelIdeal : Cert.PleKernelIdeal.Facts) (hPleReferenceIdeal : Cert.PleReferenceIdeal.Facts) (hMixKernel : Cert.MixKernel.Facts) (hMixKernelIdeal : Cert.MixKernelIdeal.Facts) (hMixReferenceIdeal : Cert.MixReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_PleKernel_PleKernelIdeal
    ∧ algebraic_PleKernelIdeal_PleReferenceIdeal (hPleKernelIdeal := hPleKernelIdeal) (hPleReferenceIdeal := hPleReferenceIdeal)
    ∧ preserves_MixKernel_MixKernelIdeal
    ∧ algebraic_MixKernelIdeal_MixReferenceIdeal (hMixKernelIdeal := hMixKernelIdeal) (hMixReferenceIdeal := hMixReferenceIdeal)
-- ==== Pre_finite.lean ====
abbrev S2x8192x8x64 : Shape := ⟨4, ![2, 8192, 8, 64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel

variable [Facts]

def fn {F : FTy → Type} [FloatOps F] (main_arg0 : FVec F S2x8192x8x64 .f32) (main_arg1 : FVec F S2x8192x8x64 .f32) (main_arg2 : FVec F S2x8192x8x64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  main_v8
-- ==== Kernel.lean ====
abbrev S2x8192x8x64 : Shape := ⟨4, ![2, 8192, 8, 64]⟩
abbrev S2x8192x4x128 : Shape := ⟨4, ![2, 8192, 4, 128]⟩
abbrev S2x4x8192x128 : Shape := ⟨4, ![2, 4, 8192, 128]⟩
abbrev S1x1x2048x128 : Shape := ⟨4, ![1, 1, 2048, 128]⟩
abbrev S2048x128 : Shape := ⟨2, ![2048, 128]⟩
abbrev S4x512x128 : Shape := ⟨3, ![4, 512, 128]⟩
abbrev S1x128 : Shape := ⟨2, ![1, 128]⟩
abbrev S128x256 : Shape := ⟨2, ![128, 256]⟩
abbrev S1x1x512x128 : Shape := ⟨4, ![1, 1, 512, 128]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x1x128x128 : Shape := ⟨4, ![1, 1, 128, 128]⟩
abbrev S1x1x256x128 : Shape := ⟨4, ![1, 1, 256, 128]⟩

abbrev nBuf : Space → Nat
  | .hbm => 10
  | .vmem => 21
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x4x128, .f32⟩
  | .hbm, ⟨4, _⟩ => ⟨S2x4x8192x128, .f32⟩
  | .hbm, ⟨5, _⟩ => ⟨S2x8192x4x128, .f32⟩
  | .hbm, ⟨6, _⟩ => ⟨S2x4x8192x128, .f32⟩
  | .hbm, ⟨7, _⟩ => ⟨S2x8192x4x128, .f32⟩
  | .hbm, ⟨8, _⟩ => ⟨S2x4x8192x128, .f32⟩
  | .hbm, ⟨9, _⟩ => ⟨S2x4x8192x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S2048x128, .f32⟩
  | .local _ .vmem, ⟨13, _⟩ => ⟨S2048x128, .f32⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .vmem, ⟨18, _⟩ => ⟨S4x512x128, .f32⟩
  | .local _ .vmem, ⟨19, _⟩ => ⟨S4x512x128, .f32⟩
  | .local _ .vmem, ⟨20, _⟩ => ⟨S4x512x128, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8192x8x64 : Shape := ⟨4, ![2, 8192, 8, 64]⟩
abbrev S2x8192x1x8x64 : Shape := ⟨5, ![2, 8192, 1, 8, 64]⟩
abbrev S2x1x8x8192x64 : Shape := ⟨5, ![2, 1, 8, 8192, 64]⟩
abbrev S16x64x128x64 : Shape := ⟨4, ![16, 64, 128, 64]⟩
abbrev S_ : Shape := ⟨0, ![]⟩
abbrev S16x1x128x64 : Shape := ⟨4, ![16, 1, 128, 64]⟩
abbrev S16x63x128x64 : Shape := ⟨4, ![16, 63, 128, 64]⟩
abbrev S16x64x256x64 : Shape := ⟨4, ![16, 64, 256, 64]⟩
abbrev S16x64x128x256 : Shape := ⟨4, ![16, 64, 128, 256]⟩
abbrev S16x64x128 : Shape := ⟨3, ![16, 64, 128]⟩
abbrev S16x64x128x1 : Shape := ⟨4, ![16, 64, 128, 1]⟩
abbrev S2x1x8x8192x1 : Shape := ⟨5, ![2, 1, 8, 8192, 1]⟩
abbrev S2x8192x1x8x1 : Shape := ⟨5, ![2, 8192, 1, 8, 1]⟩
abbrev S2x8192x8x1 : Shape := ⟨4, ![2, 8192, 8, 1]⟩
abbrev S2x8192x8 : Shape := ⟨3, ![2, 8192, 8]⟩
abbrev S2x2048x4x8x64 : Shape := ⟨5, ![2, 2048, 4, 8, 64]⟩
abbrev S2x4x8x2048x64 : Shape := ⟨5, ![2, 4, 8, 2048, 64]⟩
abbrev S64x16x128x64 : Shape := ⟨4, ![64, 16, 128, 64]⟩
abbrev S64x1x128x64 : Shape := ⟨4, ![64, 1, 128, 64]⟩
abbrev S64x15x128x64 : Shape := ⟨4, ![64, 15, 128, 64]⟩
abbrev S64x16x256x64 : Shape := ⟨4, ![64, 16, 256, 64]⟩
abbrev S64x16x128x256 : Shape := ⟨4, ![64, 16, 128, 256]⟩
abbrev S64x16x128 : Shape := ⟨3, ![64, 16, 128]⟩
abbrev S64x16x128x1 : Shape := ⟨4, ![64, 16, 128, 1]⟩
abbrev S2x4x8x2048x1 : Shape := ⟨5, ![2, 4, 8, 2048, 1]⟩
abbrev S2x2048x4x8x1 : Shape := ⟨5, ![2, 2048, 4, 8, 1]⟩
abbrev S2x512x16x8x64 : Shape := ⟨5, ![2, 512, 16, 8, 64]⟩
abbrev S2x16x8x512x64 : Shape := ⟨5, ![2, 16, 8, 512, 64]⟩
abbrev S256x4x128x64 : Shape := ⟨4, ![256, 4, 128, 64]⟩
abbrev S256x1x128x64 : Shape := ⟨4, ![256, 1, 128, 64]⟩
abbrev S256x3x128x64 : Shape := ⟨4, ![256, 3, 128, 64]⟩
abbrev S256x4x256x64 : Shape := ⟨4, ![256, 4, 256, 64]⟩
abbrev S256x4x128x256 : Shape := ⟨4, ![256, 4, 128, 256]⟩
abbrev S256x4x128 : Shape := ⟨3, ![256, 4, 128]⟩
abbrev S256x4x128x1 : Shape := ⟨4, ![256, 4, 128, 1]⟩
abbrev S2x16x8x512x1 : Shape := ⟨5, ![2, 16, 8, 512, 1]⟩
abbrev S2x512x16x8x1 : Shape := ⟨5, ![2, 512, 16, 8, 1]⟩
abbrev S1x2x8192x8 : Shape := ⟨4, ![1, 2, 8192, 8]⟩
abbrev S3x2x8192x8 : Shape := ⟨4, ![3, 2, 8192, 8]⟩
abbrev S3x2x8192x8x1 : Shape := ⟨5, ![3, 2, 8192, 8, 1]⟩
abbrev S1x2x8192x8x64 : Shape := ⟨5, ![1, 2, 8192, 8, 64]⟩
abbrev S3x2x8192x8x64 : Shape := ⟨5, ![3, 2, 8192, 8, 64]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩

abbrev nBuf : Space → Nat
  | .hbm => 249
  | .vmem => 0
  | .smem => 0
  | _ => 0

abbrev hbmTy0_0 (i : Nat) : BufTy := match i % 128 with
  | 0 => ⟨S2x8192x8x64, .f32⟩
  | 1 => ⟨S2x8192x8x64, .f32⟩
  | 2 => ⟨S2x8192x8x64, .f32⟩
  | 3 => ⟨S2x8192x1x8x64, .f32⟩
  | 4 => ⟨S2x1x8x8192x64, .f32⟩
  | 5 => ⟨S16x64x128x64, .f32⟩
  | 6 => ⟨S2x8192x1x8x64, .f32⟩
  | 7 => ⟨S2x1x8x8192x64, .f32⟩
  | 8 => ⟨S16x64x128x64, .f32⟩
  | 9 => ⟨S_, .f32⟩
  | 10 => ⟨S16x1x128x64, .f32⟩
  | 11 => ⟨S16x63x128x64, .f32⟩
  | 12 => ⟨S16x64x128x64, .f32⟩
  | 13 => ⟨S16x64x256x64, .f32⟩
  | 14 => ⟨S2x8192x1x8x64, .f32⟩
  | 15 => ⟨S2x1x8x8192x64, .f32⟩
  | 16 => ⟨S16x64x128x64, .f32⟩
  | 17 => ⟨S_, .f32⟩
  | 18 => ⟨S16x1x128x64, .f32⟩
  | 19 => ⟨S16x63x128x64, .f32⟩
  | 20 => ⟨S16x64x128x64, .f32⟩
  | 21 => ⟨S16x64x256x64, .f32⟩
  | 22 => ⟨S16x64x128x256, .i32⟩
  | 23 => ⟨S16x64x128x256, .i32⟩
  | 24 => ⟨S16x64x128x256, .i32⟩
  | 25 => ⟨S_, .i32⟩
  | 26 => ⟨S16x64x128x256, .i32⟩
  | 27 => ⟨S16x64x128x256, .i32⟩
  | 28 => ⟨S16x64x128x256, .i32⟩
  | 29 => ⟨S_, .i32⟩
  | 30 => ⟨S16x64x128x256, .i32⟩
  | 31 => ⟨S16x64x128x256, .i32⟩
  | 32 => ⟨S16x64x128x256, .i32⟩
  | 33 => ⟨S_, .i32⟩
  | 34 => ⟨S16x64x128x256, .i32⟩
  | 35 => ⟨S16x64x128x256, .i32⟩
  | 36 => ⟨S_, .i32⟩
  | 37 => ⟨S16x64x128x256, .i32⟩
  | 38 => ⟨S16x64x128x256, .i1⟩
  | 39 => ⟨S_, .i32⟩
  | 40 => ⟨S16x64x128x256, .i32⟩
  | 41 => ⟨S16x64x128x256, .i1⟩
  | 42 => ⟨S16x64x128x256, .i1⟩
  | 43 => ⟨S_, .i32⟩
  | 44 => ⟨S16x64x128x256, .i32⟩
  | 45 => ⟨S16x64x128x256, .i1⟩
  | 46 => ⟨S16x64x128x256, .i1⟩
  | 47 => ⟨S16x64x128x256, .f32⟩
  | 48 => ⟨S_, .f32⟩
  | 49 => ⟨S16x64x128x256, .f32⟩
  | 50 => ⟨S16x64x128x256, .f32⟩
  | 51 => ⟨S_, .f32⟩
  | 52 => ⟨S16x64x128x256, .f32⟩
  | 53 => ⟨S16x64x128x256, .f32⟩
  | 54 => ⟨S_, .f32⟩
  | 55 => ⟨S16x64x128, .f32⟩
  | 56 => ⟨S16x64x128x1, .f32⟩
  | 57 => ⟨S16x64x128x256, .f32⟩
  | 58 => ⟨S16x64x128x256, .f32⟩
  | 59 => ⟨S16x64x128x256, .f32⟩
  | 60 => ⟨S_, .f32⟩
  | 61 => ⟨S16x64x128, .f32⟩
  | 62 => ⟨S16x64x128x1, .f32⟩
  | 63 => ⟨S16x64x128x64, .f32⟩
  | 64 => ⟨S16x64x128x64, .f32⟩
  | 65 => ⟨S16x64x128x64, .f32⟩
  | 66 => ⟨S16x64x128x1, .f32⟩
  | 67 => ⟨S16x64x128x1, .f32⟩
  | 68 => ⟨S2x1x8x8192x64, .f32⟩
  | 69 => ⟨S2x8192x1x8x64, .f32⟩
  | 70 => ⟨S2x8192x8x64, .f32⟩
  | 71 => ⟨S2x1x8x8192x1, .f32⟩
  | 72 => ⟨S2x8192x1x8x1, .f32⟩
  | 73 => ⟨S2x8192x8x1, .f32⟩
  | 74 => ⟨S2x8192x8, .f32⟩
  | 75 => ⟨S2x2048x4x8x64, .f32⟩
  | 76 => ⟨S2x4x8x2048x64, .f32⟩
  | 77 => ⟨S64x16x128x64, .f32⟩
  | 78 => ⟨S2x2048x4x8x64, .f32⟩
  | 79 => ⟨S2x4x8x2048x64, .f32⟩
  | 80 => ⟨S64x16x128x64, .f32⟩
  | 81 => ⟨S_, .f32⟩
  | 82 => ⟨S64x1x128x64, .f32⟩
  | 83 => ⟨S64x15x128x64, .f32⟩
  | 84 => ⟨S64x16x128x64, .f32⟩
  | 85 => ⟨S64x16x256x64, .f32⟩
  | 86 => ⟨S2x2048x4x8x64, .f32⟩
  | 87 => ⟨S2x4x8x2048x64, .f32⟩
  | 88 => ⟨S64x16x128x64, .f32⟩
  | 89 => ⟨S_, .f32⟩
  | 90 => ⟨S64x1x128x64, .f32⟩
  | 91 => ⟨S64x15x128x64, .f32⟩
  | 92 => ⟨S64x16x128x64, .f32⟩
  | 93 => ⟨S64x16x256x64, .f32⟩
  | 94 => ⟨S64x16x128x256, .i32⟩
  | 95 => ⟨S64x16x128x256, .i32⟩
  | 96 => ⟨S64x16x128x256, .i32⟩
  | 97 => ⟨S_, .i32⟩
  | 98 => ⟨S64x16x128x256, .i32⟩
  | 99 => ⟨S64x16x128x256, .i32⟩
  | 100 => ⟨S64x16x128x256, .i32⟩
  | 101 => ⟨S_, .i32⟩
  | 102 => ⟨S64x16x128x256, .i32⟩
  | 103 => ⟨S64x16x128x256, .i32⟩
  | 104 => ⟨S64x16x128x256, .i32⟩
  | 105 => ⟨S_, .i32⟩
  | 106 => ⟨S64x16x128x256, .i32⟩
  | 107 => ⟨S64x16x128x256, .i32⟩
  | 108 => ⟨S_, .i32⟩
  | 109 => ⟨S64x16x128x256, .i32⟩
  | 110 => ⟨S64x16x128x256, .i1⟩
  | 111 => ⟨S_, .i32⟩
  | 112 => ⟨S64x16x128x256, .i32⟩
  | 113 => ⟨S64x16x128x256, .i1⟩
  | 114 => ⟨S64x16x128x256, .i1⟩
  | 115 => ⟨S_, .i32⟩
  | 116 => ⟨S64x16x128x256, .i32⟩
  | 117 => ⟨S64x16x128x256, .i1⟩
  | 118 => ⟨S64x16x128x256, .i1⟩
  | 119 => ⟨S64x16x128x256, .f32⟩
  | 120 => ⟨S_, .f32⟩
  | 121 => ⟨S64x16x128x256, .f32⟩
  | 122 => ⟨S64x16x128x256, .f32⟩
  | 123 => ⟨S_, .f32⟩
  | 124 => ⟨S64x16x128x256, .f32⟩
  | 125 => ⟨S64x16x128x256, .f32⟩
  | 126 => ⟨S_, .f32⟩
  | 127 => ⟨S64x16x128, .f32⟩
  | _ => ⟨S2x8192x8x64, .f32⟩

abbrev hbmTy0_1 (i : Nat) : BufTy := match i % 128 with
  | 0 => ⟨S64x16x128x1, .f32⟩
  | 1 => ⟨S64x16x128x256, .f32⟩
  | 2 => ⟨S64x16x128x256, .f32⟩
  | 3 => ⟨S64x16x128x256, .f32⟩
  | 4 => ⟨S_, .f32⟩
  | 5 => ⟨S64x16x128, .f32⟩
  | 6 => ⟨S64x16x128x1, .f32⟩
  | 7 => ⟨S64x16x128x64, .f32⟩
  | 8 => ⟨S64x16x128x64, .f32⟩
  | 9 => ⟨S64x16x128x64, .f32⟩
  | 10 => ⟨S64x16x128x1, .f32⟩
  | 11 => ⟨S64x16x128x1, .f32⟩
  | 12 => ⟨S2x4x8x2048x64, .f32⟩
  | 13 => ⟨S2x2048x4x8x64, .f32⟩
  | 14 => ⟨S2x8192x8x64, .f32⟩
  | 15 => ⟨S2x4x8x2048x1, .f32⟩
  | 16 => ⟨S2x2048x4x8x1, .f32⟩
  | 17 => ⟨S2x8192x8x1, .f32⟩
  | 18 => ⟨S2x8192x8, .f32⟩
  | 19 => ⟨S2x512x16x8x64, .f32⟩
  | 20 => ⟨S2x16x8x512x64, .f32⟩
  | 21 => ⟨S256x4x128x64, .f32⟩
  | 22 => ⟨S2x512x16x8x64, .f32⟩
  | 23 => ⟨S2x16x8x512x64, .f32⟩
  | 24 => ⟨S256x4x128x64, .f32⟩
  | 25 => ⟨S_, .f32⟩
  | 26 => ⟨S256x1x128x64, .f32⟩
  | 27 => ⟨S256x3x128x64, .f32⟩
  | 28 => ⟨S256x4x128x64, .f32⟩
  | 29 => ⟨S256x4x256x64, .f32⟩
  | 30 => ⟨S2x512x16x8x64, .f32⟩
  | 31 => ⟨S2x16x8x512x64, .f32⟩
  | 32 => ⟨S256x4x128x64, .f32⟩
  | 33 => ⟨S_, .f32⟩
  | 34 => ⟨S256x1x128x64, .f32⟩
  | 35 => ⟨S256x3x128x64, .f32⟩
  | 36 => ⟨S256x4x128x64, .f32⟩
  | 37 => ⟨S256x4x256x64, .f32⟩
  | 38 => ⟨S256x4x128x256, .i32⟩
  | 39 => ⟨S256x4x128x256, .i32⟩
  | 40 => ⟨S256x4x128x256, .i32⟩
  | 41 => ⟨S_, .i32⟩
  | 42 => ⟨S256x4x128x256, .i32⟩
  | 43 => ⟨S256x4x128x256, .i32⟩
  | 44 => ⟨S256x4x128x256, .i32⟩
  | 45 => ⟨S_, .i32⟩
  | 46 => ⟨S256x4x128x256, .i32⟩
  | 47 => ⟨S256x4x128x256, .i32⟩
  | 48 => ⟨S256x4x128x256, .i32⟩
  | 49 => ⟨S_, .i32⟩
  | 50 => ⟨S256x4x128x256, .i32⟩
  | 51 => ⟨S256x4x128x256, .i32⟩
  | 52 => ⟨S_, .i32⟩
  | 53 => ⟨S256x4x128x256, .i32⟩
  | 54 => ⟨S256x4x128x256, .i1⟩
  | 55 => ⟨S_, .i32⟩
  | 56 => ⟨S256x4x128x256, .i32⟩
  | 57 => ⟨S256x4x128x256, .i1⟩
  | 58 => ⟨S256x4x128x256, .i1⟩
  | 59 => ⟨S_, .i32⟩
  | 60 => ⟨S256x4x128x256, .i32⟩
  | 61 => ⟨S256x4x128x256, .i1⟩
  | 62 => ⟨S256x4x128x256, .i1⟩
  | 63 => ⟨S256x4x128x256, .f32⟩
  | 64 => ⟨S_, .f32⟩
  | 65 => ⟨S256x4x128x256, .f32⟩
  | 66 => ⟨S256x4x128x256, .f32⟩
  | 67 => ⟨S_, .f32⟩
  | 68 => ⟨S256x4x128x256, .f32⟩
  | 69 => ⟨S256x4x128x256, .f32⟩
  | 70 => ⟨S_, .f32⟩
  | 71 => ⟨S256x4x128, .f32⟩
  | 72 => ⟨S256x4x128x1, .f32⟩
  | 73 => ⟨S256x4x128x256, .f32⟩
  | 74 => ⟨S256x4x128x256, .f32⟩
  | 75 => ⟨S256x4x128x256, .f32⟩
  | 76 => ⟨S_, .f32⟩
  | 77 => ⟨S256x4x128, .f32⟩
  | 78 => ⟨S256x4x128x1, .f32⟩
  | 79 => ⟨S256x4x128x64, .f32⟩
  | 80 => ⟨S256x4x128x64, .f32⟩
  | 81 => ⟨S256x4x128x64, .f32⟩
  | 82 => ⟨S256x4x128x1, .f32⟩
  | 83 => ⟨S256x4x128x1, .f32⟩
  | 84 => ⟨S2x16x8x512x64, .f32⟩
  | 85 => ⟨S2x512x16x8x64, .f32⟩
  | 86 => ⟨S2x8192x8x64, .f32⟩
  | 87 => ⟨S2x16x8x512x1, .f32⟩
  | 88 => ⟨S2x512x16x8x1, .f32⟩
  | 89 => ⟨S2x8192x8x1, .f32⟩
  | 90 => ⟨S2x8192x8, .f32⟩
  | 91 => ⟨S1x2x8192x8, .f32⟩
  | 92 => ⟨S1x2x8192x8, .f32⟩
  | 93 => ⟨S1x2x8192x8, .f32⟩
  | 94 => ⟨S3x2x8192x8, .f32⟩
  | 95 => ⟨S_, .f32⟩
  | 96 => ⟨S2x8192x8, .f32⟩
  | 97 => ⟨S_, .f32⟩
  | 98 => ⟨S2x8192x8, .f32⟩
  | 99 => ⟨S2x8192x8, .f32⟩
  | 100 => ⟨S1x2x8192x8, .f32⟩
  | 101 => ⟨S3x2x8192x8, .f32⟩
  | 102 => ⟨S3x2x8192x8, .f32⟩
  | 103 => ⟨S3x2x8192x8, .f32⟩
  | 104 => ⟨S_, .f32⟩
  | 105 => ⟨S2x8192x8, .f32⟩
  | 106 => ⟨S1x2x8192x8, .f32⟩
  | 107 => ⟨S3x2x8192x8, .f32⟩
  | 108 => ⟨S3x2x8192x8, .f32⟩
  | 109 => ⟨S3x2x8192x8x1, .f32⟩
  | 110 => ⟨S1x2x8192x8x64, .f32⟩
  | 111 => ⟨S1x2x8192x8x64, .f32⟩
  | 112 => ⟨S1x2x8192x8x64, .f32⟩
  | 113 => ⟨S3x2x8192x8x64, .f32⟩
  | 114 => ⟨S3x2x8192x8x64, .f32⟩
  | 115 => ⟨S3x2x8192x8x64, .f32⟩
  | 116 => ⟨S_, .f32⟩
  | 117 => ⟨S2x8192x8x64, .f32⟩
  | 118 => ⟨S2x8192x512, .f32⟩
  | 119 => ⟨S2x8192x4x128, .f32⟩
  | 120 => ⟨S2x4x8192x128, .f32⟩
  | _ => ⟨S2x8192x8x64, .f32⟩

abbrev hbmTy (i : Nat) : BufTy := match i / 128 with
  | 0 => hbmTy0_0 i
  | 1 => hbmTy0_1 i
  | _ => ⟨S2x8192x8x64, .f32⟩

abbrev bufTy : (tb : Table) → Fin (tcTables nBuf tb) → BufTy
  | .hbm, ⟨i, _⟩ => hbmTy i
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_c_12 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_c_13 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_c_14 : Ref sig .tc := ⟨.hbm, 105, rfl⟩
abbrev main_v86 : Ref sig .tc := ⟨.hbm, 106, rfl⟩
abbrev main_v87 : Ref sig .tc := ⟨.hbm, 107, rfl⟩
abbrev main_c_15 : Ref sig .tc := ⟨.hbm, 108, rfl⟩
abbrev main_v88 : Ref sig .tc := ⟨.hbm, 109, rfl⟩
abbrev main_v89 : Ref sig .tc := ⟨.hbm, 110, rfl⟩
abbrev main_c_16 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_c_17 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_18 : Ref sig .tc := ⟨.hbm, 120, rfl⟩
abbrev main_v97 : Ref sig .tc := ⟨.hbm, 121, rfl⟩
abbrev main_v98 : Ref sig .tc := ⟨.hbm, 122, rfl⟩
abbrev main_cst_19 : Ref sig .tc := ⟨.hbm, 123, rfl⟩
abbrev main_v99 : Ref sig .tc := ⟨.hbm, 124, rfl⟩
abbrev main_v100 : Ref sig .tc := ⟨.hbm, 125, rfl⟩
abbrev main_cst_20 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_21 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_22 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_23 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_c_24 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_c_25 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_c_26 : Ref sig .tc := ⟨.hbm, 177, rfl⟩
abbrev main_v146 : Ref sig .tc := ⟨.hbm, 178, rfl⟩
abbrev main_v147 : Ref sig .tc := ⟨.hbm, 179, rfl⟩
abbrev main_c_27 : Ref sig .tc := ⟨.hbm, 180, rfl⟩
abbrev main_v148 : Ref sig .tc := ⟨.hbm, 181, rfl⟩
abbrev main_v149 : Ref sig .tc := ⟨.hbm, 182, rfl⟩
abbrev main_c_28 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_c_29 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_30 : Ref sig .tc := ⟨.hbm, 192, rfl⟩
abbrev main_v157 : Ref sig .tc := ⟨.hbm, 193, rfl⟩
abbrev main_v158 : Ref sig .tc := ⟨.hbm, 194, rfl⟩
abbrev main_cst_31 : Ref sig .tc := ⟨.hbm, 195, rfl⟩
abbrev main_v159 : Ref sig .tc := ⟨.hbm, 196, rfl⟩
abbrev main_v160 : Ref sig .tc := ⟨.hbm, 197, rfl⟩
abbrev main_cst_32 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_33 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_cst_34 : Ref sig .tc := ⟨.hbm, 223, rfl⟩
abbrev main_v184 : Ref sig .tc := ⟨.hbm, 224, rfl⟩
abbrev main_cst_35 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_cst_36 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_37 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩

abbrev nD : Nat := 1
abbrev τ : Topo := Topo.v7x

variable {F : FTy → Type} [FloatOps F]
-- ==== PleKernel.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== MixKernel.lean ====
abbrev S2x8192x1024 : Shape := ⟨3, ![2, 8192, 1024]⟩
abbrev S1024 : Shape := ⟨1, ![1024]⟩
abbrev S1024x2560 : Shape := ⟨2, ![1024, 2560]⟩
abbrev S2x8192 : Shape := ⟨2, ![2, 8192]⟩
abbrev S128 : Shape := ⟨1, ![128]⟩
abbrev S_ : Shape := ⟨0, ![]⟩
abbrev S2x8192x1 : Shape := ⟨3, ![2, 8192, 1]⟩
abbrev S1x1x128 : Shape := ⟨3, ![1, 1, 128]⟩
abbrev S2x8192x128 : Shape := ⟨3, ![2, 8192, 128]⟩
abbrev S1x1024 : Shape := ⟨2, ![1, 1024]⟩
abbrev S2x4x8192x128 : Shape := ⟨4, ![2, 4, 8192, 128]⟩
abbrev S2x8192x512 : Shape := ⟨3, ![2, 8192, 512]⟩
abbrev S1x1024x1024 : Shape := ⟨3, ![1, 1024, 1024]⟩
abbrev S1x1024x128 : Shape := ⟨3, ![1, 1024, 128]⟩
abbrev S1x4x1024x128 : Shape := ⟨4, ![1, 4, 1024, 128]⟩
abbrev S1x1024x512 : Shape := ⟨3, ![1, 1024, 512]⟩
abbrev S1024x1024 : Shape := ⟨2, ![1024, 1024]⟩
abbrev S1024x1 : Shape := ⟨2, ![1024, 1]⟩
abbrev S1024x128 : Shape := ⟨2, ![1024, 128]⟩
abbrev S1x128 : Shape := ⟨2, ![1, 128]⟩
abbrev S1x1x1024x128 : Shape := ⟨4, ![1, 1, 1024, 128]⟩
abbrev S1024x512 : Shape := ⟨2, ![1024, 512]⟩

abbrev nBuf : Space → Nat
  | .hbm => 80
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S2x8192, .i32⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S_, .i1⟩
  | .hbm, ⟨21, _⟩ => ⟨S128, .i1⟩
  | .hbm, ⟨22, _⟩ => ⟨S128, .i1⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S_, .i1⟩
  | .hbm, ⟨46, _⟩ => ⟨S128, .i1⟩
  | .hbm, ⟨47, _⟩ => ⟨S128, .i1⟩
  | .hbm, ⟨48, _⟩ => ⟨S128, .i1⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S2x8192, .f32⟩
  | .hbm, ⟨67, _⟩ => ⟨S2x8192x1, .f32⟩
  | .hbm, ⟨68, _⟩ => ⟨S1x1x128, .f32⟩
  | .hbm, ⟨69, _⟩ => ⟨S2x8192x128, .f32⟩
  | .hbm, ⟨70, _⟩ => ⟨S2x8192x128, .f32⟩
  | .hbm, ⟨71, _⟩ => ⟨S2x8192x128, .f32⟩
  | .hbm, ⟨72, _⟩ => ⟨S2x8192x128, .f32⟩
  | .hbm, ⟨73, _⟩ => ⟨S2x8192x128, .f32⟩
  | .hbm, ⟨74, _⟩ => ⟨S1x1024, .f32⟩
  | .hbm, ⟨75, _⟩ => ⟨S1024x2560, .bf16⟩
  | .hbm, ⟨76, _⟩ => ⟨S2x4x8192x128, .f32⟩
  | .hbm, ⟨77, _⟩ => ⟨S2x4x8192x128, .f32⟩
  | .hbm, ⟨78, _⟩ => ⟨S2x4x8192x128, .f32⟩
  | .hbm, ⟨79, _⟩ => ⟨S2x8192x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x4x1024x128, .f32⟩
  | .local _ .vmem, ⟨9, _⟩ => ⟨S1x4x1024x128, .f32⟩
  | .local _ .vmem, ⟨10, _⟩ => ⟨S1x4x1024x128, .f32⟩
  | .local _ .vmem, ⟨11, _⟩ => ⟨S1x4x1024x128, .f32⟩
  | .local _ .vmem, ⟨12, _⟩ => ⟨S1x4x1024x128, .f32⟩
  | .local _ .vmem, ⟨13, _⟩ => ⟨S1x4x1024x128, .f32⟩
  | .local _ .vmem, ⟨14, _⟩ => ⟨S1x1024x512, .f32⟩
  | .local _ .vmem, ⟨15, _⟩ => ⟨S1x1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v4 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_cst_2 : Ref sig .tc := ⟨.hbm, 56, rfl⟩
abbrev main_v8 : Ref sig .tc := ⟨.hbm, 57, rfl⟩
abbrev main_v9 : Ref sig .tc := ⟨.hbm, 58, rfl⟩
abbrev main_cst_3 : Ref sig .tc := ⟨.hbm, 59, rfl⟩
abbrev main_v10 : Ref sig .tc := ⟨.hbm, 60, rfl⟩
abbrev main_v11 : Ref sig .tc := ⟨.hbm, 61, rfl⟩
abbrev main_cst_4 : Ref sig .tc := ⟨.hbm, 62, rfl⟩
abbrev main_call2_v0 : Ref sig .tc := ⟨.hbm, 63, rfl⟩
abbrev main_call2_v1 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23_0 : Ref sig .tc := ⟨.hbm, 76, rfl⟩
abbrev main_v23_1 : Ref sig .tc := ⟨.hbm, 77, rfl⟩
abbrev main_v23_2 : Ref sig .tc := ⟨.hbm, 78, rfl⟩
abbrev main_v23_3 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixReferenceIdeal.lean ====
abbrev S2x8192x1024 : Shape := ⟨3, ![2, 8192, 1024]⟩
abbrev S1024 : Shape := ⟨1, ![1024]⟩
abbrev S1024x2560 : Shape := ⟨2, ![1024, 2560]⟩
abbrev S2x8192 : Shape := ⟨2, ![2, 8192]⟩
abbrev S_ : Shape := ⟨0, ![]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x512 : Shape := ⟨3, ![2, 8192, 512]⟩
abbrev S2x8192x8x64 : Shape := ⟨4, ![2, 8192, 8, 64]⟩
abbrev S8 : Shape := ⟨1, ![8]⟩
abbrev S1x1x8 : Shape := ⟨3, ![1, 1, 8]⟩
abbrev S2x8192x8 : Shape := ⟨3, ![2, 8192, 8]⟩
abbrev S2x8192x1x8 : Shape := ⟨4, ![2, 8192, 1, 8]⟩
abbrev S2x8192x8x16 : Shape := ⟨4, ![2, 8192, 8, 16]⟩
abbrev S2x8192x8x8 : Shape := ⟨4, ![2, 8192, 8, 8]⟩
abbrev S2x8192x8x48 : Shape := ⟨4, ![2, 8192, 8, 48]⟩
abbrev S2x8192x4x128 : Shape := ⟨4, ![2, 8192, 4, 128]⟩
abbrev S2x4x8192x128 : Shape := ⟨4, ![2, 4, 8192, 128]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S2x8192, .i32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x2560, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x8x64, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S2x8192, .f32⟩
  | .hbm, ⟨42, _⟩ => ⟨S2x8192x1, .f32⟩
  | .hbm, ⟨43, _⟩ => ⟨S1x1x8, .f32⟩
  | .hbm, ⟨44, _⟩ => ⟨S2x8192x8, .f32⟩
  | .hbm, ⟨45, _⟩ => ⟨S2x8192x8, .f32⟩
  | .hbm, ⟨46, _⟩ => ⟨S2x8192x8, .f32⟩
  | .hbm, ⟨47, _⟩ => ⟨S2x8192x8, .f32⟩
  | .hbm, ⟨48, _⟩ => ⟨S2x8192x1x8, .f32⟩
  | .hbm, ⟨49, _⟩ => ⟨S2x8192x8, .f32⟩
  | .hbm, ⟨50, _⟩ => ⟨S2x8192x1x8, .f32⟩
  | .hbm, ⟨51, _⟩ => ⟨S2x8192x8x16, .f32⟩
  | .hbm, ⟨52, _⟩ => ⟨S2x8192x8x8, .f32⟩
  | .hbm, ⟨53, _⟩ => ⟨S2x8192x8x8, .f32⟩
  | .hbm, ⟨54, _⟩ => ⟨S2x8192x8x8, .f32⟩
  | .hbm, ⟨55, _⟩ => ⟨S2x8192x8x8, .f32⟩
  | .hbm, ⟨56, _⟩ => ⟨S2x8192x8x8, .f32⟩
  | .hbm, ⟨57, _⟩ => ⟨S2x8192x8x8, .f32⟩
  | .hbm, ⟨58, _⟩ => ⟨S2x8192x8x8, .f32⟩
  | .hbm, ⟨59, _⟩ => ⟨S2x8192x8x8, .f32⟩
  | .hbm, ⟨60, _⟩ => ⟨S2x8192x8x8, .f32⟩
  | .hbm, ⟨61, _⟩ => ⟨S2x8192x8x8, .f32⟩
  | .hbm, ⟨62, _⟩ => ⟨S2x8192x8x8, .f32⟩
  | .hbm, ⟨63, _⟩ => ⟨S2x8192x8x8, .f32⟩
  | .hbm, ⟨64, _⟩ => ⟨S2x8192x8x16, .f32⟩
  | .hbm, ⟨65, _⟩ => ⟨S2x8192x8x48, .f32⟩
  | .hbm, ⟨66, _⟩ => ⟨S2x8192x8x64, .f32⟩
  | .hbm, ⟨67, _⟩ => ⟨S2x8192x8x64, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S2x8192, .f32⟩
  | .hbm, ⟨83, _⟩ => ⟨S2x8192x1, .f32⟩
  | .hbm, ⟨84, _⟩ => ⟨S1x1x8, .f32⟩
  | .hbm, ⟨85, _⟩ => ⟨S2x8192x8, .f32⟩
  | .hbm, ⟨86, _⟩ => ⟨S2x8192x8, .f32⟩
  | .hbm, ⟨87, _⟩ => ⟨S2x8192x8, .f32⟩
  | .hbm, ⟨88, _⟩ => ⟨S2x8192x8, .f32⟩
  | .hbm, ⟨89, _⟩ => ⟨S2x8192x1x8, .f32⟩
  | .hbm, ⟨90, _⟩ => ⟨S2x8192x8, .f32⟩
  | .hbm, ⟨91, _⟩ => ⟨S2x8192x1x8, .f32⟩
  | .hbm, ⟨92, _⟩ => ⟨S2x8192x8x16, .f32⟩
  | .hbm, ⟨93, _⟩ => ⟨S2x8192x8x8, .f32⟩
  | .hbm, ⟨94, _⟩ => ⟨S2x8192x8x8, .f32⟩
  | .hbm, ⟨95, _⟩ => ⟨S2x8192x8x8, .f32⟩
  | .hbm, ⟨96, _⟩ => ⟨S2x8192x8x8, .f32⟩
  | .hbm, ⟨97, _⟩ => ⟨S2x8192x8x8, .f32⟩
  | .hbm, ⟨98, _⟩ => ⟨S2x8192x8x8, .f32⟩
  | .hbm, ⟨99, _⟩ => ⟨S2x8192x8x8, .f32⟩
  | .hbm, ⟨100, _⟩ => ⟨S2x8192x8x8, .f32⟩
  | .hbm, ⟨101, _⟩ => ⟨S2x8192x8x8, .f32⟩
  | .hbm, ⟨102, _⟩ => ⟨S2x8192x8x8, .f32⟩
  | .hbm, ⟨103, _⟩ => ⟨S2x8192x8x8, .f32⟩
  | .hbm, ⟨104, _⟩ => ⟨S2x8192x8x8, .f32⟩
  | .hbm, ⟨105, _⟩ => ⟨S2x8192x8x16, .f32⟩
  | .hbm, ⟨106, _⟩ => ⟨S2x8192x8x48, .f32⟩
  | .hbm, ⟨107, _⟩ => ⟨S2x8192x8x64, .f32⟩
  | .hbm, ⟨108, _⟩ => ⟨S2x8192x8x64, .f32⟩
  | .hbm, ⟨109, _⟩ => ⟨S2x8192x512, .f32⟩
  | .hbm, ⟨110, _⟩ => ⟨S2x8192x512, .f32⟩
  | .hbm, ⟨111, _⟩ => ⟨S_, .f32⟩
  | .hbm, ⟨112, _⟩ => ⟨S2x8192x512, .f32⟩
  | .hbm, ⟨113, _⟩ => ⟨S2x8192x512, .f32⟩
  | .hbm, ⟨114, _⟩ => ⟨S_, .f32⟩
  | .hbm, ⟨115, _⟩ => ⟨S2x8192x512, .f32⟩
  | .hbm, ⟨116, _⟩ => ⟨S2x8192x512, .f32⟩
  | .hbm, ⟨117, _⟩ => ⟨S2x8192x512, .f32⟩
  | .hbm, ⟨118, _⟩ => ⟨S2x8192x4x128, .f32⟩
  | .hbm, ⟨119, _⟩ => ⟨S2x4x8192x128, .f32⟩
  | .hbm, ⟨120, _⟩ => ⟨S2x8192x4x128, .f32⟩
  | .hbm, ⟨121, _⟩ => ⟨S2x4x8192x128, .f32⟩
  | .hbm, ⟨122, _⟩ => ⟨S2x8192x4x128, .f32⟩
  | .hbm, ⟨123, _⟩ => ⟨S2x4x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_10 : Ref sig .tc := ⟨.hbm, 111, rfl⟩
abbrev main_v96 : Ref sig .tc := ⟨.hbm, 112, rfl⟩
abbrev main_v97 : Ref sig .tc := ⟨.hbm, 113, rfl⟩
abbrev main_cst_11 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩

abbrev nD : Nat := 1
abbrev τ : Topo := Topo.v7x

variable {F : FTy → Type} [FloatOps F]
-- ==== Proof.Attn.Block.lean ====
/- The attention kernel's body at one grid point, block by block, over any float type. A block is 128 query rows of one
   residue class against their 256-key window: `bO`, `bL` are what the body computes for a block, `mO`, `mL` the merge with
   what the coarser patterns left. `hs0`, `hs1` list the contents of the two accumulators after each of the 32 blocks of
   the patterns with dilation 4 and 1; each is one more store over the one before (`hs0_four`, `hs0_one`, …). -/
module

public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe

variable {F : FTy → Type} [FloatOps F]

/-- The scores of one head: the scaled queries against the window's keys, `-∞` where the mask is off. -/
def sc (w : FVec F S1x128 .bf16) (mask : IVec S128x256 1) (q : FVec F S128x128 .bf16) (k : FVec F S256x128 .bf16) :
    FVec F S128x256 .f32 :=
  select mask
    (matmul dot_S128x128_S256x128_S128x256_1_1_0_0_n_n none (mulf q (broadcastTo S128x128 w broadcasts_S1x128_S128x128)) k
      (constant S128x256 .f32 0x00000000#32))
    (broadcast S128x256 (Scalar.ofBits .f32 0xFF800000#32))

/-- The row maxima of the scores. -/
def rmax (s : FVec F S128x256 .f32) : FVec F S128x1 .f32 :=
  shapeCast S128x1 (multiReduction .maximumf [1] S128 s 0xFF800000#32 reduces_S128x256_S128 (.inl rfl) rfl) shapeCasts_S128_S128x1

/-- The exponentials of the scores less their row maximum. -/
def ex (s : FVec F S128x256 .f32) : FVec F S128x256 .f32 :=
  exp (subf s (broadcastTo S128x256 (rmax s) broadcasts_S128x1_S128x256))

/-- The row sums of the exponentials. -/
def den (s : FVec F S128x256 .f32) : FVec F S128x1 .f32 :=
  shapeCast S128x1 (multiReduction .add [1] S128 (ex s) 0x00000000#32 reduces_S128x256_S128 (.inl rfl) rfl) shapeCasts_S128_S128x1

/-- One head's output rows. -/
def oh (s : FVec F S128x256 .f32) (v : FVec F S256x128 .bf16) : FVec F S128x128 .f32 :=
  divf (matmul dot_S128x256_S256x128_S128x128_1_0_0_1_n_n none (truncf .bf16 (ex s) bitsLt_bf16_f32) v
      (constant S128x128 .f32 0x00000000#32))
    (broadcastTo S128x128 (den s) broadcasts_S128x1_S128x128)

/-- One head's log denominators. -/
def lh (s : FVec F S128x256 .f32) : FVec F S128x1 .f32 := addf (rmax s) (log (den s))

/-- The lanes of the first head, on every row. -/
def hd : IVec S128x128 1 :=
  broadcastTo S128x128 (shapeCast S1x128 k0_pay4 shapeCasts_S1x128_S1x128) broadcasts_S1x128_S128x128

/-- A column on every lane. -/
def col (l : FVec F S128x1 .f32) : FVec F S128x128 .f32 :=
  broadcastTo S128x128 (shapeCast S128x1 l shapeCasts_S128x1_S128x1) broadcasts_S128x1_S128x128

/-- A block's output: each lane from its own head. -/
def bO (mask : IVec S128x256 1) (q : FVec F S128x128 .bf16) (k v : FVec F S256x128 .bf16) : FVec F S128x128 .f32 :=
  select hd (oh (sc k0_pay5 mask q k) v) (oh (sc k0_pay6 mask q k) v)

/-- A block's log denominators: each lane from its own head. -/
def bL (mask : IVec S128x256 1) (q : FVec F S128x128 .bf16) (k : FVec F S256x128 .bf16) : FVec F S128x128 .f32 :=
  select hd (col (lh (sc k0_pay5 mask q k))) (col (lh (sc k0_pay6 mask q k)))

/-- The sum of the two weights of a merge. -/
def tot (lo ln : FVec F S128x128 .f32) : FVec F S128x128 .f32 :=
  addf (exp (subf lo (maximumf lo ln))) (exp (subf ln (maximumf lo ln)))

/-- Two outputs merged by their log denominators. -/
def mO (oo lo on ln : FVec F S128x128 .f32) : FVec F S128x128 .f32 :=
  divf (addf (mulf oo (exp (subf lo (maximumf lo ln)))) (mulf on (exp (subf ln (maximumf lo ln))))) (tot lo ln)

/-- The merged log denominator. -/
def mL (lo ln : FVec F S128x128 .f32) : FVec F S128x128 .f32 := addf (maximumf lo ln) (log (tot lo ln))

/-- The causal band of a window. -/
def band : IVec S128x256 1 :=
  andi (cmpi .sge k0_pay7 (broadcast S128x256 0#32)) (cmpi .sle k0_pay7 (broadcast S128x256 128#32))

/-- What the body's run at one grid point refers to: the point, the memrefs and the five input blocks. -/
structure Pt (F : FTy → Type) [FloatOps F] where
  c : Dev nD
  i : grid0.Coords
  arg3 : Memref sig .tc .vmem S1x1x2048x128 .f32
  harg3 : arg3.IsWhole
  arg4 : Memref sig .tc .vmem S1x1x2048x128 .f32
  harg4 : arg4.IsWhole
  arg5 : Memref sig .tc .vmem S1x1x2048x128 .f32
  harg5 : arg5.IsWhole
  arg6 : Memref sig .tc .vmem S1x1x2048x128 .f32
  harg6 : arg6.IsWhole
  arg7 : Memref sig .tc .vmem S1x1x2048x128 .f32
  harg7 : arg7.IsWhole
  arg9 : Memref sig .tc .vmem S2048x128 .f32
  arg10 : Memref sig .tc .vmem S2048x128 .f32
  arg11 : Memref sig .tc .vmem S4x512x128 .f32
  arg12 : Memref sig .tc .vmem S4x512x128 .f32
  arg13 : Memref sig .tc .vmem S4x512x128 .f32
  arg14 : Memref sig .tc .vmem S4x512x128 .f32
  arg15 : Memref sig .tc .vmem S4x512x128 .f32
  arg16 : Memref sig .tc .vmem S4x512x128 .f32
  arg17 : Memref sig .tc .vmem S4x512x128 .f32
  x0 : Vec F S1x1x2048x128 .f32
  x1 : Vec F S1x1x2048x128 .f32
  x2 : Vec F S1x1x2048x128 .f32
  x3 : Vec F S1x1x2048x128 .f32
  x4 : Vec F S1x1x2048x128 .f32

namespace Pt

variable (p : Pt F)

/-- Rows `o, o + s, …` of an input block: 128 of them. -/
def R1 (s o : ℕ) (h : o + s * 127 < 2048) : LoadRect S1x1x2048x128 :=
  ⟨![0, 0, o, 0], S1x1x128x128.size, ![1, 1, s, 1], fun a => by fin_cases a <;> simp [Shape.size] <;> omega⟩

/-- Rows `o, o + s, …` of an input block: 256 of them. -/
def R2 (s o : ℕ) (h : o + s * 255 < 2048) : LoadRect S1x1x2048x128 :=
  ⟨![0, 0, o, 0], S1x1x256x128.size, ![1, 1, s, 1], fun a => by fin_cases a <;> simp [Shape.size] <;> omega⟩

/-- The accumulator's contents after `n` blocks of the patterns with dilation 4 and 1. -/
def hs0 : ℕ → List (View.Piece (Elt F) S2048x128 .f32)
  | 0 => kernelRun0_A.sl.HS0_4 p.c p.i p.arg3 p.harg3 p.arg4 p.harg4 p.arg5 p.harg5 p.arg6 p.harg6 p.arg7 p.harg7 p.arg11 p.arg12 p.arg13 p.arg14 p.arg15 p.arg16 p.x0 p.x1 p.x2 p.x3 p.x4
  | 1 => kernelRun0_A.sl.HS0_5 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 2 => kernelRun0_A.sl.HS0_6 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 3 => kernelRun0_A.sl.HS0_7 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 4 => kernelRun0_A.sl.HS0_8 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 5 => kernelRun0_A.sl.HS0_9 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 6 => kernelRun0_A.sl.HS0_10 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 7 => kernelRun0_A.sl.HS0_11 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 8 => kernelRun0_A.sl.HS0_12 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 9 => kernelRun0_A.sl.HS0_13 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 10 => kernelRun0_A.sl.HS0_14 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 11 => kernelRun0_A.sl.HS0_15 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 12 => kernelRun0_A.sl.HS0_16 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 13 => kernelRun0_A.sl.HS0_17 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 14 => kernelRun0_A.sl.HS0_18 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 15 => kernelRun0_A.sl.HS0_19 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 16 => kernelRun0_A.sl.HS0_20 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 17 => kernelRun0_A.sl.HS0_21 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 18 => kernelRun0_A.sl.HS0_22 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 19 => kernelRun0_A.sl.HS0_23 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 20 => kernelRun0_A.sl.HS0_24 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 21 => kernelRun0_A.sl.HS0_25 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 22 => kernelRun0_A.sl.HS0_26 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 23 => kernelRun0_A.sl.HS0_27 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 24 => kernelRun0_A.sl.HS0_28 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 25 => kernelRun0_A.sl.HS0_29 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 26 => kernelRun0_A.sl.HS0_30 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 27 => kernelRun0_A.sl.HS0_31 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 28 => kernelRun0_A.sl.HS0_32 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 29 => kernelRun0_A.sl.HS0_33 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 30 => kernelRun0_A.sl.HS0_34 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | 31 => kernelRun0_A.sl.HS0_35 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4
  | _ => kernelRun0_A.sl.HS0_36 p.c p.i p.arg3 p.harg3 p.arg4 p.harg4 p.arg5 p.harg5 p.arg6 p.harg6 p.arg7 p.harg7 p.arg9 p.arg10 p.arg11 p.arg12 p.arg13 p.arg14 p.arg15 p.arg16 p.arg17 p.x0 p.x1 p.x2 p.x3 p.x4

/-- The log denominators' contents after `n` blocks of the patterns with dilation 4 and 1. -/
def hs1 : ℕ → List (View.Piece (Elt F) S2048x128 .f32)
  | 0 => kernelRun0_A.sl.HS1_4 p.c p.i p.arg3 p.harg3 p.arg4 p.harg4 p.arg6 p.harg6 p.arg11 p.arg12 p.arg14 p.arg17 p.x0 p.x1 p.x3
  | 1 => kernelRun0_A.sl.HS1_5 p.c p.i p.arg3 p.harg3 p.arg4 p.harg4 p.arg6 p.harg6 p.arg10 p.arg11 p.arg12 p.arg14 p.arg17 p.x0 p.x1 p.x3
  | 2 => kernelRun0_A.sl.HS1_6 p.c p.i p.arg3 p.harg3 p.arg4 p.harg4 p.arg6 p.harg6 p.arg10 p.arg11 p.arg12 p.arg14 p.arg17 p.x0 p.x1 p.x3
  | 3 => kernelRun0_A.sl.HS1_7 p.c p.i p.arg3 p.harg3 p.arg4 p.harg4 p.arg6 p.harg6 p.arg10 p.arg11 p.arg12 p.arg14 p.arg17 p.x0 p.x1 p.x3
  | 4 => kernelRun0_A.sl.HS1_8 p.c p.i p.arg3 p.harg3 p.arg4 p.harg4 p.arg6 p.harg6 p.arg10 p.arg11 p.arg12 p.arg14 p.arg17 p.x0 p.x1 p.x3
  | 5 => kernelRun0_A.sl.HS1_9 p.c p.i p.arg3 p.harg3 p.arg4 p.harg4 p.arg6 p.harg6 p.arg10 p.arg11 p.arg12 p.arg14 p.arg17 p.x0 p.x1 p.x3
  | 6 => kernelRun0_A.sl.HS1_10 p.c p.i p.arg3 p.harg3 p.arg4 p.harg4 p.arg6 p.harg6 p.arg10 p.arg11 p.arg12 p.arg14 p.arg17 p.x0 p.x1 p.x3
  | 7 => kernelRun0_A.sl.HS1_11 p.c p.i p.arg3 p.harg3 p.arg4 p.harg4 p.arg6 p.harg6 p.arg10 p.arg11 p.arg12 p.arg14 p.arg17 p.x0 p.x1 p.x3
  | 8 => kernelRun0_A.sl.HS1_12 p.c p.i p.arg3 p.harg3 p.arg4 p.harg4 p.arg6 p.harg6 p.arg10 p.arg11 p.arg12 p.arg14 p.arg17 p.x0 p.x1 p.x3
  | 9 => kernelRun0_A.sl.HS1_13 p.c p.i p.arg3 p.harg3 p.arg4 p.harg4 p.arg6 p.harg6 p.arg10 p.arg11 p.arg12 p.arg14 p.arg17 p.x0 p.x1 p.x3
  | 10 => kernelRun0_A.sl.HS1_14 p.c p.i p.arg3 p.harg3 p.arg4 p.harg4 p.arg6 p.harg6 p.arg10 p.arg11 p.arg12 p.arg14 p.arg17 p.x0 p.x1 p.x3
  | 11 => kernelRun0_A.sl.HS1_15 p.c p.i p.arg3 p.harg3 p.arg4 p.harg4 p.arg6 p.harg6 p.arg10 p.arg11 p.arg12 p.arg14 p.arg17 p.x0 p.x1 p.x3
  | 12 => kernelRun0_A.sl.HS1_16 p.c p.i p.arg3 p.harg3 p.arg4 p.harg4 p.arg6 p.harg6 p.arg10 p.arg11 p.arg12 p.arg14 p.arg17 p.x0 p.x1 p.x3
  | 13 => kernelRun0_A.sl.HS1_17 p.c p.i p.arg3 p.harg3 p.arg4 p.harg4 p.arg6 p.harg6 p.arg10 p.arg11 p.arg12 p.arg14 p.arg17 p.x0 p.x1 p.x3
  | 14 => kernelRun0_A.sl.HS1_18 p.c p.i p.arg3 p.harg3 p.arg4 p.harg4 p.arg6 p.harg6 p.arg10 p.arg11 p.arg12 p.arg14 p.arg17 p.x0 p.x1 p.x3
  | 15 => kernelRun0_A.sl.HS1_19 p.c p.i p.arg3 p.harg3 p.arg4 p.harg4 p.arg6 p.harg6 p.arg10 p.arg11 p.arg12 p.arg14 p.arg17 p.x0 p.x1 p.x3
  | 16 => kernelRun0_A.sl.HS1_20 p.c p.i p.arg3 p.harg3 p.arg4 p.harg4 p.arg6 p.harg6 p.arg10 p.arg11 p.arg12 p.arg14 p.arg17 p.x0 p.x1 p.x3
  | 17 => kernelRun0_A.sl.HS1_21 p.c p.i p.arg3 p.harg3 p.arg4 p.harg4 p.arg6 p.harg6 p.arg10 p.arg11 p.arg12 p.arg14 p.arg17 p.x0 p.x1 p.x3
  | 18 => kernelRun0_A.sl.HS1_22 p.c p.i p.arg3 p.harg3 p.arg4 p.harg4 p.arg6 p.harg6 p.arg10 p.arg11 p.arg12 p.arg14 p.arg17 p.x0 p.x1 p.x3
  | 19 => kernelRun0_A.sl.HS1_23 p.c p.i p.arg3 p.harg3 p.arg4 p.harg4 p.arg6 p.harg6 p.arg10 p.arg11 p.arg12 p.arg14 p.arg17 p.x0 p.x1 p.x3
  | 20 => kernelRun0_A.sl.HS1_24 p.c p.i p.arg3 p.harg3 p.arg4 p.harg4 p.arg6 p.harg6 p.arg10 p.arg11 p.arg12 p.arg14 p.arg17 p.x0 p.x1 p.x3
  | 21 => kernelRun0_A.sl.HS1_25 p.c p.i p.arg3 p.harg3 p.arg4 p.harg4 p.arg6 p.harg6 p.arg10 p.arg11 p.arg12 p.arg14 p.arg17 p.x0 p.x1 p.x3
  | 22 => kernelRun0_A.sl.HS1_26 p.c p.i p.arg3 p.harg3 p.arg4 p.harg4 p.arg6 p.harg6 p.arg10 p.arg11 p.arg12 p.arg14 p.arg17 p.x0 p.x1 p.x3
  | 23 => kernelRun0_A.sl.HS1_27 p.c p.i p.arg3 p.harg3 p.arg4 p.harg4 p.arg6 p.harg6 p.arg10 p.arg11 p.arg12 p.arg14 p.arg17 p.x0 p.x1 p.x3
  | 24 => kernelRun0_A.sl.HS1_28 p.c p.i p.arg3 p.harg3 p.arg4 p.harg4 p.arg6 p.harg6 p.arg10 p.arg11 p.arg12 p.arg14 p.arg17 p.x0 p.x1 p.x3
  | 25 => kernelRun0_A.sl.HS1_29 p.c p.i p.arg3 p.harg3 p.arg4 p.harg4 p.arg6 p.harg6 p.arg10 p.arg11 p.arg12 p.arg14 p.arg17 p.x0 p.x1 p.x3
  | 26 => kernelRun0_A.sl.HS1_30 p.c p.i p.arg3 p.harg3 p.arg4 p.harg4 p.arg6 p.harg6 p.arg10 p.arg11 p.arg12 p.arg14 p.arg17 p.x0 p.x1 p.x3
  | 27 => kernelRun0_A.sl.HS1_31 p.c p.i p.arg3 p.harg3 p.arg4 p.harg4 p.arg6 p.harg6 p.arg10 p.arg11 p.arg12 p.arg14 p.arg17 p.x0 p.x1 p.x3
  | 28 => kernelRun0_A.sl.HS1_32 p.c p.i p.arg3 p.harg3 p.arg4 p.harg4 p.arg6 p.harg6 p.arg10 p.arg11 p.arg12 p.arg14 p.arg17 p.x0 p.x1 p.x3
  | 29 => kernelRun0_A.sl.HS1_33 p.c p.i p.arg3 p.harg3 p.arg4 p.harg4 p.arg6 p.harg6 p.arg10 p.arg11 p.arg12 p.arg14 p.arg17 p.x0 p.x1 p.x3
  | 30 => kernelRun0_A.sl.HS1_34 p.c p.i p.arg3 p.harg3 p.arg4 p.harg4 p.arg6 p.harg6 p.arg10 p.arg11 p.arg12 p.arg14 p.arg17 p.x0 p.x1 p.x3
  | _ => kernelRun0_A.sl.HS1_35 p.c p.i p.arg3 p.harg3 p.arg4 p.harg4 p.arg6 p.harg6 p.arg10 p.arg11 p.arg12 p.arg14 p.arg17 p.x0 p.x1 p.x3

/-- Queries of block `j` of dilation 4. -/
def q4 (j : Fin 16) : FVec F S128x128 .bf16 :=
  truncf .bf16 (shapeCast S128x128 (View.readAt (Elt F) p.arg3.view (R1 4 (j.val / 4 + 512 * (j.val % 4)) (by omega)) (p.harg3.unread p.x0))
    shapeCasts_S1x1x128x128_S128x128) bitsLt_bf16_f32

/-- The 256-row window of block `j` of dilation 4: the rows before the block from the block of the grid point before
    where `j` is the first of its class. -/
def w4 {ac ap : Memref sig .tc .vmem S1x1x2048x128 .f32} (hc : ac.IsWhole) (hp : ap.IsWhole) (xc xp : Vec F S1x1x2048x128 .f32)
    (j : Fin 16) : FVec F S256x128 .bf16 :=
  if h : j.val % 4 = 0 then
    truncf .bf16 (concatenate S256x128 0
      [⟨S128x128, shapeCast S128x128 (View.readAt (Elt F) ap.view (R1 4 (1536 + j.val / 4) (by omega)) (hp.unread xp)) shapeCasts_S1x1x128x128_S128x128⟩,
       ⟨S128x128, shapeCast S128x128 (View.readAt (Elt F) ac.view (R1 4 (j.val / 4) (by omega)) (hc.unread xc)) shapeCasts_S1x1x128x128_S128x128⟩]
      concatenates_S128x128_S128x128_S256x128_d0) bitsLt_bf16_f32
  else
    truncf .bf16 (shapeCast S256x128 (View.readAt (Elt F) ac.view (R2 4 (j.val / 4 + 512 * (j.val % 4 - 1)) (by omega)) (hc.unread xc))
      shapeCasts_S1x1x256x128_S256x128) bitsLt_bf16_f32

/-- The mask of block `j` of dilation 4. -/
def m4 (j : Fin 16) : IVec S128x256 1 := if j.val % 4 = 0 then andi band (k0_pay8 p.i) else band

/-- The rows of block `j` of dilation 4. -/
def rect4 (j : Fin 16) : Rect S2048x128 :=
  ⟨⟨![j.val / 4 + 512 * (j.val % 4), 0], S128x128.size, ![4, 1], fun a => by fin_cases a <;> simp [Shape.size] <;> omega⟩,
    fun a => by fin_cases a <;> simp⟩

/-- Queries of block `j` of dilation 1. -/
def q1 (j : Fin 16) : FVec F S128x128 .bf16 :=
  truncf .bf16 (shapeCast S128x128 (View.readAt (Elt F) p.arg3.view
    (Rect.unit (s := S1x1x2048x128) ![0, 0, 128 * j.val, 0] S1x1x128x128.size (fun a => by fin_cases a <;> simp [Shape.size] <;> omega)).toLoadRect (p.harg3.unread p.x0))
    shapeCasts_S1x1x128x128_S128x128) bitsLt_bf16_f32

/-- The 256-row window of block `j` of dilation 1. -/
def w1 {ac ap : Memref sig .tc .vmem S1x1x2048x128 .f32} (hc : ac.IsWhole) (hp : ap.IsWhole) (xc xp : Vec F S1x1x2048x128 .f32)
    (j : Fin 16) : FVec F S256x128 .bf16 :=
  if h : j.val = 0 then
    truncf .bf16 (concatenate S256x128 0
      [⟨S128x128, shapeCast S128x128 (View.readAt (Elt F) ap.view
        (Rect.unit (s := S1x1x2048x128) ![0, 0, 1920, 0] S1x1x128x128.size (fun a => by fin_cases a <;> simp [Shape.size])).toLoadRect (hp.unread xp)) shapeCasts_S1x1x128x128_S128x128⟩,
       ⟨S128x128, shapeCast S128x128 (View.readAt (Elt F) ac.view
        (Rect.unit (s := S1x1x2048x128) ![0, 0, 0, 0] S1x1x128x128.size (fun a => by fin_cases a <;> simp [Shape.size])).toLoadRect (hc.unread xc)) shapeCasts_S1x1x128x128_S128x128⟩]
      concatenates_S128x128_S128x128_S256x128_d0) bitsLt_bf16_f32
  else
    truncf .bf16 (shapeCast S256x128 (View.readAt (Elt F) ac.view
      (Rect.unit (s := S1x1x2048x128) ![0, 0, 128 * (j.val - 1), 0] S1x1x256x128.size (fun a => by fin_cases a <;> simp [Shape.size] <;> omega)).toLoadRect (hc.unread xc))
      shapeCasts_S1x1x256x128_S256x128) bitsLt_bf16_f32

/-- The mask of block `j` of dilation 1. -/
def m1 (j : Fin 16) : IVec S128x256 1 := if j.val = 0 then andi band (k0_pay8 p.i) else band

/-- The rows of block `j` of dilation 1. -/
def rect1 (j : Fin 16) : Rect S2048x128 :=
  Rect.unit (s := S2048x128) ![128 * j.val, 0] S128x128.size (fun a => by fin_cases a <;> simp [Shape.size] <;> omega)

/-- What a block stores over accumulators that hold `A` and `B`. -/
def stO (A B : S128x128.Idx → Elt F .f32) (mask : IVec S128x256 1) (q : FVec F S128x128 .bf16)
    (k v : FVec F S256x128 .bf16) : FVec F S128x128 .f32 :=
  shapeCast S128x128 (mO A B (bO mask q k v) (bL mask q k)) shapeCasts_S128x128_S128x128

/-- The log denominators it stores. -/
def stL (B : S128x128.Idx → Elt F .f32) (mask : IVec S128x256 1) (q : FVec F S128x128 .bf16)
    (k : FVec F S256x128 .bf16) : FVec F S128x128 .f32 :=
  shapeCast S128x128 (mL B (bL mask q k)) shapeCasts_S128x128_S128x128

/-- Block `j` of dilation 4 is one more store. -/
theorem hs0_four (j : Fin 16) : p.hs0 (j.val + 1) =
    ⟨rect4 j, stO (p.arg9.view.readCov (p.hs0 j.val) (rect4 j).toLoadRect) (p.arg10.view.readCov (p.hs1 j.val) (rect4 j).toLoadRect) (p.m4 j) (p.q4 j)
      (w4 p.harg4 p.harg6 p.x1 p.x3 j) (w4 p.harg5 p.harg7 p.x2 p.x4 j)⟩ :: p.hs0 j.val   :=
  match j with
  | 0 | 1 | 2 | 3 | 4 | 5 | 6 | 7 | 8 | 9 | 10 | 11 | 12 | 13 | 14 | 15 => rfl
  | ⟨n + 16, h⟩ => absurd h (by omega)

theorem hs1_four (j : Fin 16) : p.hs1 (j.val + 1) =
    ⟨rect4 j, stL (p.arg10.view.readCov (p.hs1 j.val) (rect4 j).toLoadRect) (p.m4 j) (p.q4 j) (w4 p.harg4 p.harg6 p.x1 p.x3 j)⟩ :: p.hs1 j.val   :=
  match j with
  | 0 | 1 | 2 | 3 | 4 | 5 | 6 | 7 | 8 | 9 | 10 | 11 | 12 | 13 | 14 | 15 => rfl
  | ⟨n + 16, h⟩ => absurd h (by omega)

/-- Block `j` of dilation 1 is one more store. -/
theorem hs0_one (j : Fin 16) : p.hs0 (16 + j.val + 1) =
    ⟨rect1 j, stO (p.arg9.view.readCov (p.hs0 (16 + j.val)) (rect1 j).toLoadRect) (p.arg10.view.readCov (p.hs1 (16 + j.val)) (rect1 j).toLoadRect) (p.m1 j) (p.q1 j)
      (w1 p.harg4 p.harg6 p.x1 p.x3 j) (w1 p.harg5 p.harg7 p.x2 p.x4 j)⟩ :: p.hs0 (16 + j.val)   :=
  match j with
  | 0 | 1 | 2 | 3 | 4 | 5 | 6 | 7 | 8 | 9 | 10 | 11 | 12 | 13 | 14 | 15 => rfl
  | ⟨n + 16, h⟩ => absurd h (by omega)

theorem hs1_one (j : Fin 15) : p.hs1 (16 + j.val + 1) =
    ⟨rect1 j.castSucc, stL (p.arg10.view.readCov (p.hs1 (16 + j.val)) (rect1 j.castSucc).toLoadRect) (p.m1 j.castSucc) (p.q1 j.castSucc)
      (w1 p.harg4 p.harg6 p.x1 p.x3 j.castSucc)⟩ :: p.hs1 (16 + j.val)   :=
  match j with
  | 0 | 1 | 2 | 3 | 4 | 5 | 6 | 7 | 8 | 9 | 10 | 11 | 12 | 13 | 14 => rfl
  | ⟨n + 15, h⟩ => absurd h (by omega)

/-- Rows `o, o + 4, …` of an input block: 512 of them. -/
def RS (o : Fin 4) : LoadRect S1x1x2048x128 :=
  ⟨![0, 0, o.val, 0], S1x1x512x128.size, ![1, 1, 4, 1], fun a => by fin_cases a <;> simp [Shape.size] <;> omega⟩

/-- Class `o` modulo 4 of an input block, staged as slice `o` of a buffer. -/
def stg {a : Memref sig .tc .vmem S1x1x2048x128 .f32} (h : a.IsWhole) (x : Vec F S1x1x2048x128 .f32) (o : Fin 4) :
    View.Piece (Elt F) S4x512x128 .f32 :=
  ⟨Rect.unit (s := S4x512x128) ![o.val, 0, 0] S1x512x128.size (fun a => by fin_cases a <;> simp [Shape.size] <;> omega),
    shapeCast S1x512x128 (shapeCast S512x128 (View.readAt (Elt F) a.view (RS o) (h.unread x)) shapeCasts_S1x1x512x128_S512x128)
      shapeCasts_S512x128_S1x512x128⟩

/-- The staged buffer's contents. -/
def stgs {a : Memref sig .tc .vmem S1x1x2048x128 .f32} (h : a.IsWhole) (x : Vec F S1x1x2048x128 .f32) :
    List (View.Piece (Elt F) S4x512x128 .f32) := ([3, 2, 1, 0] : List (Fin 4)).map (stg h x)

theorem stage_q : kernelRun0_A.sl.HS2_4 p.c p.arg3 p.harg3 p.x0 = stgs p.harg3 p.x0 := rfl
theorem stage_k : kernelRun0_A.sl.HS3_4 p.c p.arg4 p.harg4 p.x1 = stgs p.harg4 p.x1 := rfl
theorem stage_v : kernelRun0_A.sl.HS4_4 p.c p.arg5 p.harg5 p.x2 = stgs p.harg5 p.x2 := rfl
theorem stage_kp : kernelRun0_A.sl.HS5_4 p.c p.arg6 p.harg6 p.x3 = stgs p.harg6 p.x3 := rfl
theorem stage_vp : kernelRun0_A.sl.HS6_4 p.c p.arg7 p.harg7 p.x4 = stgs p.harg7 p.x4 := rfl

/-- The rows of class `r` modulo 16 in a staged buffer. -/
def rect16 (r : Fin 16) : Rect S4x512x128 :=
  ⟨⟨![r.val % 4, r.val / 4, 0], S1x128x128.size, ![1, 4, 1], fun a => by fin_cases a <;> simp [Shape.size] <;> omega⟩,
    fun a => by fin_cases a <;> simp⟩

/-- A load of class `r` from a staged buffer. -/
def ld16 (a : Memref sig .tc .vmem S4x512x128 .f32) (L : List (View.Piece (Elt F) S4x512x128 .f32)) (r : Fin 16) : FVec F S128x128 .f32 :=
  shapeCast S128x128 (a.view.readCov L (rect16 r).toLoadRect) shapeCasts_S1x128x128_S128x128

/-- Queries of block `r` of dilation 16. -/
def q16 (r : Fin 16) : FVec F S128x128 .bf16 := truncf .bf16 (ld16 p.arg11 (stgs p.harg3 p.x0) r) bitsLt_bf16_f32

/-- The window of block `r` of dilation 16, from the staged buffers of the grid point before and of this one. -/
def w16 (ap ac : Memref sig .tc .vmem S4x512x128 .f32) (Lp Lc : List (View.Piece (Elt F) S4x512x128 .f32)) (r : Fin 16) : FVec F S256x128 .bf16 :=
  truncf .bf16 (concatenate S256x128 0 [⟨S128x128, ld16 ap Lp r⟩, ⟨S128x128, ld16 ac Lc r⟩] concatenates_S128x128_S128x128_S256x128_d0) bitsLt_bf16_f32

/-- The store of block `r` of dilation 16: its output. -/
def f16 (r : Fin 16) : View.Piece (Elt F) S4x512x128 .f32 :=
  ⟨rect16 r, shapeCast S1x128x128 (bO (andi band (k0_pay8 p.i)) (p.q16 r) (w16 p.arg14 p.arg12 (stgs p.harg6 p.x3) (stgs p.harg4 p.x1) r)
    (w16 p.arg15 p.arg13 (stgs p.harg7 p.x4) (stgs p.harg5 p.x2) r)) shapeCasts_S128x128_S1x128x128⟩

/-- The store of block `r` of dilation 16: its log denominators. -/
def l16 (r : Fin 16) : View.Piece (Elt F) S4x512x128 .f32 :=
  ⟨rect16 r, shapeCast S1x128x128 (bL (andi band (k0_pay8 p.i)) (p.q16 r) (w16 p.arg14 p.arg12 (stgs p.harg6 p.x3) (stgs p.harg4 p.x1) r))
    shapeCasts_S128x128_S1x128x128⟩

theorem all_f16 : kernelRun0_A.sl.HS7_16 p.c p.i p.arg3 p.harg3 p.arg4 p.harg4 p.arg5 p.harg5 p.arg6 p.harg6 p.arg7 p.harg7 p.arg11 p.arg12 p.arg13 p.arg14 p.arg15 p.x0 p.x1 p.x2 p.x3 p.x4 = ([15, 14, 13, 12, 11, 10, 9, 8, 7, 6, 5, 4, 3, 2, 1, 0] : List (Fin 16)).map p.f16 := rfl
theorem all_l16 : kernelRun0_A.sl.HS8_16 p.c p.i p.arg3 p.harg3 p.arg4 p.harg4 p.arg6 p.harg6 p.arg11 p.arg12 p.arg14 p.x0 p.x1 p.x3 = ([15, 14, 13, 12, 11, 10, 9, 8, 7, 6, 5, 4, 3, 2, 1, 0] : List (Fin 16)).map p.l16 := rfl

/-- Slice `o` of a staged buffer, stored at the rows of class `o` modulo 4 of an accumulator. -/
def back (a : Memref sig .tc .vmem S4x512x128 .f32) (L : List (View.Piece (Elt F) S4x512x128 .f32)) (o : Fin 4) :
    View.Piece (Elt F) S2048x128 .f32 :=
  ⟨⟨⟨![o.val, 0], S512x128.size, ![4, 1], fun a => by fin_cases a <;> simp [Shape.size] <;> omega⟩, fun a => by fin_cases a <;> simp⟩,
    shapeCast S512x128 (shapeCast S512x128 (a.view.readCov L (Rect.unit (s := S4x512x128) ![o.val, 0, 0] S1x512x128.size
      (fun a => by fin_cases a <;> simp [Shape.size] <;> omega)).toLoadRect) shapeCasts_S1x512x128_S512x128) shapeCasts_S512x128_S512x128⟩

theorem hs0_zero : p.hs0 0 = ([3, 2, 1, 0] : List (Fin 4)).map (back p.arg16 (([15, 14, 13, 12, 11, 10, 9, 8, 7, 6, 5, 4, 3, 2, 1, 0] : List (Fin 16)).map p.f16)) := rfl
theorem hs1_zero : p.hs1 0 = ([3, 2, 1, 0] : List (Fin 4)).map (back p.arg17 (([15, 14, 13, 12, 11, 10, 9, 8, 7, 6, 5, 4, 3, 2, 1, 0] : List (Fin 16)).map p.l16)) := rfl

end Pt

end Cert.Attn

end
-- ==== Proof.Attn.Spec.lean ====
/- Softmax over extended reals: one row of attention from its scores and values (`ou`, `ls`), and the merge of three
   such rows by their log denominators, pairwise (`sO`, `sL`) or at once (`merge`). -/
module

public import Idealize.ShloMosaic.Lib.Pointwise

@[expose] public section

noncomputable section

namespace Cert.Attn

open Idealize.ShloMosaic

/-- The row maximum. -/
def mx (S : Fin 256 → EReal) : EReal := Finset.univ.fold max ⊥ S

/-- The denominator. -/
def dn (S : Fin 256 → EReal) : EReal := ∑ j, Ideal.exp (S j - mx S)

/-- The row's output. -/
def ou (S V : Fin 256 → EReal) : EReal := Ideal.div (∑ j, Ideal.exp (S j - mx S) * V j) (dn S)

/-- The row's log denominator. -/
def ls (S : Fin 256 → EReal) : EReal := mx S + Ideal.log (dn S)

/-- The merged output of two. -/
def sO (oo lo on ln : EReal) : EReal :=
  Ideal.div (oo * Ideal.exp (lo - max lo ln) + on * Ideal.exp (ln - max lo ln))
    (Ideal.exp (lo - max lo ln) + Ideal.exp (ln - max lo ln))

/-- The merged log denominator of two. -/
def sL (lo ln : EReal) : EReal :=
  max lo ln + Ideal.log (Ideal.exp (lo - max lo ln) + Ideal.exp (ln - max lo ln))

theorem mx_eq_sup (S : Fin 256 → EReal) : mx S = Finset.univ.sup S := rfl

/-- Values count only where the score is not `-∞`. -/
theorem ou_congr (S V V' : Fin 256 → EReal) (hm : mx S ≠ ⊥) (h : ∀ j, S j ≠ ⊥ → V j = V' j) : ou S V = ou S V' := by
  unfold ou
  congr 1
  refine Finset.sum_congr rfl fun j _ => ?_
  by_cases hj : S j = ⊥
  · rw [hj, sub_eq_add_neg, EReal.bot_add]
    show Ideal.exp ⊥ * _ = Ideal.exp ⊥ * _
    rw [show Ideal.exp ⊥ = 0 from rfl, zero_mul, zero_mul]
  · rw [h j hj]

/-- A row whose scores are real or `-∞`, one of them real, has a real maximum … -/
theorem mx_real (S : Fin 256 → EReal) (h : ∀ j, S j = ⊥ ∨ ∃ r : ℝ, S j = r) (j0 : Fin 256) (r0 : ℝ) (h0 : S j0 = r0) :
    ∃ M : ℝ, mx S = M := by
  obtain ⟨j, -, hj⟩ := Finset.exists_mem_eq_sup Finset.univ ⟨j0, Finset.mem_univ _⟩ S
  have hle : S j0 ≤ Finset.univ.sup S := Finset.le_sup (Finset.mem_univ j0)
  rw [mx_eq_sup]
  rcases h j with hb | ⟨r, hr⟩
  · rw [hj, hb, h0] at hle
    exact absurd (le_bot_iff.mp hle) (EReal.coe_ne_bot r0)
  · exact ⟨r, hj.trans hr⟩

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem coe_sum {ι : Type*} (s : Finset ι) (f : ι → ℝ) : ((∑ j ∈ s, f j : ℝ) : EReal) = ∑ j ∈ s, (f j : EReal) := by
  induction s using Finset.cons_induction with
  | empty => simp
  | cons a s ha ih => rw [Finset.sum_cons, Finset.sum_cons, EReal.coe_add, ih]

/-- … and a real log denominator. -/
theorem ls_real (S : Fin 256 → EReal) (h : ∀ j, S j = ⊥ ∨ ∃ r : ℝ, S j = r) (j0 : Fin 256) (r0 : ℝ) (h0 : S j0 = r0) :
    ∃ L : ℝ, ls S = L := by
  obtain ⟨M, hM⟩ := mx_real S h j0 r0 h0
  have he : ∀ j, ∃ f : ℝ, Ideal.exp (S j - mx S) = f ∧ 0 ≤ f ∧ (j = j0 → 0 < f) := by
    intro j
    rw [hM]
    rcases h j with hb | ⟨r, hr⟩
    · refine ⟨0, ?_, le_rfl, ?_⟩
      · rw [hb, sub_eq_add_neg, EReal.bot_add]; rfl
      · rintro rfl
        exact absurd (hb.symm.trans h0) (EReal.coe_ne_bot r0).symm
    · refine ⟨Real.exp (r - M), ?_, (Real.exp_pos _).le, fun _ => Real.exp_pos _⟩
      rw [hr, ← EReal.coe_sub]; rfl
  choose f hf hf0 hf1 using he
  have hs : dn S = ((∑ j, f j : ℝ) : EReal) := by
    unfold dn
    rw [coe_sum]
    exact Finset.sum_congr rfl fun j _ => hf j
  have hp : 0 < ∑ j, f j := Finset.sum_pos' (fun j _ => hf0 j) ⟨j0, Finset.mem_univ _, hf1 j0 rfl⟩
  refine ⟨M + Real.log (∑ j, f j), ?_⟩
  unfold ls
  rw [hs, hM, Ideal.log_coe, if_neg (not_le.mpr hp), EReal.coe_add]

theorem exp_sub (a b : ℝ) : Ideal.exp ((a : EReal) - (b : EReal)) = ((Real.exp (a - b) : ℝ) : EReal) := by
  rw [← EReal.coe_sub]; rfl

theorem sL_real (a b : ℝ) : sL a b = ((Real.log (Real.exp a + Real.exp b) : ℝ) : EReal) := by
  unfold sL
  have hmax : max (a : EReal) (b : EReal) = ((max a b : ℝ) : EReal) := (coe_max a b).symm
  have hp : 0 < Real.exp (a - max a b) + Real.exp (b - max a b) := by positivity
  rw [hmax, exp_sub, exp_sub, ← EReal.coe_add, Ideal.log_coe, if_neg (not_le.mpr hp), ← EReal.coe_add]
  congr 1
  rw [Real.exp_sub, Real.exp_sub, ← add_div, Real.log_div (by positivity) (by positivity), Real.log_exp]
  ring

theorem sO_real (x y : EReal) (a b : ℝ) :
    sO x a y b = x * ((Real.exp a / (Real.exp a + Real.exp b) : ℝ) : EReal) + y * ((Real.exp b / (Real.exp a + Real.exp b) : ℝ) : EReal) := by
  unfold sO
  have hmax : max (a : EReal) (b : EReal) = ((max a b : ℝ) : EReal) := (coe_max a b).symm
  have hp : Real.exp (a - max a b) + Real.exp (b - max a b) ≠ 0 := by positivity
  rw [hmax, exp_sub, exp_sub, ← EReal.coe_add, Ideal.div_coe hp,
    EReal.right_distrib_of_nonneg_of_ne_top (EReal.coe_nonneg.mpr (by positivity)) (EReal.coe_ne_top _),
    mul_assoc, mul_assoc, ← EReal.coe_mul, ← EReal.coe_mul]
  have ha := Real.exp_sub a (max a b)
  have hb := Real.exp_sub b (max a b)
  have hm := Real.exp_pos (max a b)
  have h1 : Real.exp (a - max a b) * (1 / (Real.exp (a - max a b) + Real.exp (b - max a b))) = Real.exp a / (Real.exp a + Real.exp b) := by
    rw [ha, hb]; field_simp
  have h2 : Real.exp (b - max a b) * (1 / (Real.exp (a - max a b) + Real.exp (b - max a b))) = Real.exp b / (Real.exp a + Real.exp b) := by
    rw [ha, hb]; field_simp
  rw [h1, h2]

/-- Three rows merged pairwise are the softmax-weighted sum of the three, whatever is subtracted from their log
    denominators. -/
theorem merge (x y z : EReal) (a b c M : ℝ) :
    sO (sO x a y b) (sL a b) z c
      = Ideal.div (Ideal.exp (c - M)) (Ideal.exp (c - M) + Ideal.exp (b - M) + Ideal.exp (a - M)) * z
        + Ideal.div (Ideal.exp (b - M)) (Ideal.exp (c - M) + Ideal.exp (b - M) + Ideal.exp (a - M)) * y
        + Ideal.div (Ideal.exp (a - M)) (Ideal.exp (c - M) + Ideal.exp (b - M) + Ideal.exp (a - M)) * x := by
  have hp : Real.exp (c - M) + Real.exp (b - M) + Real.exp (a - M) ≠ 0 := by positivity
  have hab : 0 < Real.exp a + Real.exp b := by positivity
  rw [sL_real, sO_real x y, sO_real _ z, Real.exp_log hab,
    EReal.right_distrib_of_nonneg_of_ne_top (EReal.coe_nonneg.mpr (by positivity)) (EReal.coe_ne_top _),
    mul_assoc, mul_assoc, ← EReal.coe_mul, ← EReal.coe_mul, exp_sub, exp_sub, exp_sub, ← EReal.coe_add, ← EReal.coe_add,
    Ideal.div_coe hp, Ideal.div_coe hp, Ideal.div_coe hp, ← EReal.coe_mul, ← EReal.coe_mul, ← EReal.coe_mul]
  have hm := Real.exp_pos M
  have h1 : Real.exp a / (Real.exp a + Real.exp b) * ((Real.exp a + Real.exp b) / (Real.exp a + Real.exp b + Real.exp c))
      = Real.exp (a - M) * (1 / (Real.exp (c - M) + Real.exp (b - M) + Real.exp (a - M))) := by
    rw [Real.exp_sub, Real.exp_sub, Real.exp_sub]; field_simp; ring
  have h2 : Real.exp b / (Real.exp a + Real.exp b) * ((Real.exp a + Real.exp b) / (Real.exp a + Real.exp b + Real.exp c))
      = Real.exp (b - M) * (1 / (Real.exp (c - M) + Real.exp (b - M) + Real.exp (a - M))) := by
    rw [Real.exp_sub, Real.exp_sub, Real.exp_sub]; field_simp; ring
  have h3 : Real.exp c / (Real.exp a + Real.exp b + Real.exp c)
      = Real.exp (c - M) * (1 / (Real.exp (c - M) + Real.exp (b - M) + Real.exp (a - M))) := by
    rw [Real.exp_sub, Real.exp_sub, Real.exp_sub]; field_simp; ring
  rw [h1, h2, h3, mul_comm x, mul_comm y, mul_comm z, add_comm, add_comm (_ * x), ← add_assoc]

/-- A sum over 128 lanes whose weights vanish off one head's 64 is that head's sum, scaled. -/
theorem head_sum (h : ℕ) (hh : h < 2) (f g w : Fin 128 → EReal) (c : ℝ) (hc : 0 ≤ c)
    (hw : ∀ e : Fin 128, w e = if e.val / 64 = h then (c : EReal) else 0) :
    ∑ e, (f e * w e) * g e
      = (∑ e : Fin 64, f ⟨64 * h + e.val, by have := e.isLt; omega⟩ * g ⟨64 * h + e.val, by have := e.isLt; omega⟩) * (c : EReal) := by
  have hmul : ∀ (s : Finset (Fin 64)) (t : Fin 64 → EReal), (∑ e ∈ s, t e) * (c : EReal) = ∑ e ∈ s, t e * (c : EReal) := by
    intro s t
    induction s using Finset.cons_induction with
    | empty => simp
    | cons a s ha ih =>
      rw [Finset.sum_cons, Finset.sum_cons,
        EReal.right_distrib_of_nonneg_of_ne_top (EReal.coe_nonneg.mpr hc) (EReal.coe_ne_top _), ih]
  rw [hmul]
  symm
  refine Finset.sum_of_injOn (fun e : Fin 64 => (⟨64 * h + e.val, by have := e.isLt; omega⟩ : Fin 128)) ?_ ?_ ?_ ?_
  · intro a _ b _ hab
    have := congrArg Fin.val hab
    exact Fin.ext (by simpa using this)
  · intro a _; simp
  · intro e _ he
    rw [hw, if_neg, mul_zero, zero_mul]
    intro hE
    have hlt := e.isLt
    exact he ⟨⟨e.val - 64 * h, by omega⟩, by simp, Fin.ext (show 64 * h + (e.val - 64 * h) = e.val by omega)⟩
  · intro e _
    have hlt := e.isLt
    rw [hw, if_pos (show (64 * h + e.val) / 64 = h by omega), mul_right_comm]

end Cert.Attn

end
-- ==== Proof.Attn.State.lean ====
/- The attention kernel's accumulators, read at an index over the extended reals: after the 32 + 16 blocks of one grid point
   row `s` holds the output of dilation 16 at that row, merged with the one of dilation 4, merged with the one of
   dilation 1 (`acc_final`). -/
module

public import proofs.«01_k».proof.Proof.Attn.Block
public import proofs.«01_k».proof.Proof.Attn.Spec
public import Idealize.ShloMosaic.Lib.Pointwise
public import Idealize.ShloMosaic.Lib.WholeRead

@[expose] public section

set_option maxRecDepth 16384

noncomputable section

namespace Cert.Attn

open Cert.KernelIdeal Cert.KernelIdeal.Gen Idealize.ShloMosaic Idealize.ShloMosaic.TcCoe

/-- Row `n`, lane `l` of an input block. -/
def row (x : Vec Ideal S1x1x2048x128 .f32) (n : ℕ) (l : Fin 128) : EReal :=
  x (ix4 (0 : Fin 1) (0 : Fin 1) (⟨n % 2048, Nat.mod_lt _ (by decide)⟩ : Fin 2048) l)

/-- Row `j` of the 256-row window of block `b` of residue class `r` modulo `d`: from the block `xp` before where it lies
    before row 0. -/
def win (d r b : ℕ) (xc xp : Vec Ideal S1x1x2048x128 .f32) (j : ℕ) (l : Fin 128) : EReal :=
  if 128 * b + j < 128 then row xp (2048 + r + d * (128 * b + j) - 128 * d) l
  else row xc (r + d * (128 * b + j) - 128 * d) l

/-- A block's queries. -/
def QF (d r b : ℕ) (x : Vec Ideal S1x1x2048x128 .f32) : FVec Ideal S128x128 .bf16 :=
  fun y => row x (r + d * (128 * b + (y 0).val)) (y 1)

/-- A block's window. -/
def WF (d r b : ℕ) (xc xp : Vec Ideal S1x1x2048x128 .f32) : FVec Ideal S256x128 .bf16 :=
  fun y => win d r b xc xp (y 0).val (y 1)

/-- A block's mask. -/
def MF (i : grid0.Coords) (b : ℕ) : IVec S128x256 1 := if b = 0 then andi band (k0_pay8 i) else band

theorem row_congr (x : Vec Ideal S1x1x2048x128 .f32) (z : S1x1x2048x128.Idx) (n : ℕ) (l : Fin 128)
    (hn : (z 2).val = n) (hl : z 3 = l) : x z = row x n l := by
  unfold row
  congr 1
  funext a
  have h0 : (z 0).val < 1 := (z 0).isLt
  have h1 : (z 1).val < 1 := (z 1).isLt
  have h2 : (z 2).val < 2048 := (z 2).isLt
  match a with
  | ⟨0, _⟩ => exact Fin.ext (by simpa using (show (z 0).val = 0 by omega))
  | ⟨1, _⟩ => exact Fin.ext (by simpa using (show (z 1).val = 0 by omega))
  | ⟨2, _⟩ => exact Fin.ext (by
      show (z 2).val = n % 2048
      rw [Nat.mod_eq_of_lt (by omega)]; exact hn)
  | ⟨3, _⟩ => exact hl

/-- A reshape of one row block of an input, read at an index. -/
theorem cast128 (v : S1x1x128x128.Idx → EReal) (y : S128x128.Idx) :
    shapeCast S128x128 v shapeCasts_S1x1x128x128_S128x128 y = v (ix4 (0 : Fin 1) (0 : Fin 1) (y 0) (y 1)) := by
  pointwise

theorem cast256 (v : S1x1x256x128.Idx → EReal) (y : S256x128.Idx) :
    shapeCast S256x128 v shapeCasts_S1x1x256x128_S256x128 y = v (ix4 (0 : Fin 1) (0 : Fin 1) (y 0) (y 1)) := by
  pointwise

theorem cast512 (v : S1x1x512x128.Idx → EReal) (y : S1x512x128.Idx) :
    shapeCast S1x512x128 (shapeCast S512x128 v shapeCasts_S1x1x512x128_S512x128) shapeCasts_S512x128_S1x512x128 y
      = v (ix4 (0 : Fin 1) (0 : Fin 1) (y 1) (y 2)) := by
  pointwise

/-- Two blocks of 128 rows, one over the other. -/
theorem cat_apply (a b : S128x128.Idx → EReal) (y : S256x128.Idx) :
    concatenate S256x128 0 [⟨S128x128, a⟩, ⟨S128x128, b⟩] concatenates_S128x128_S128x128_S256x128_d0 y
      = if h : (y 0).val < 128 then a (ix2 ⟨(y 0).val, h⟩ (y 1))
        else b (ix2 ⟨(y 0).val - 128, by have h0 : (y 0).val < 256 := (y 0).isLt; omega⟩ (y 1)) := by
  pointwise

namespace Pt

variable (p : Pt Ideal)

theorem q4_eq (j : Fin 16) : p.q4 j = QF 4 (j.val / 4) (j.val % 4) p.x0 := by
  funext y
  unfold q4 QF
  rw [truncf_apply]
  refine (cast128 _ y).trans ((Memref.IsWhole.readAt_unread _ _ _ _).trans ?_)
  refine row_congr _ _ _ _ ?_ ?_
  · show j.val / 4 + 512 * (j.val % 4) + 4 * (y 0).val = _
    omega
  · exact Fin.ext (show 0 + 1 * (y 1).val = (y 1).val by omega)

theorem q1_eq (j : Fin 16) : p.q1 j = QF 1 0 j.val p.x0 := by
  funext y
  unfold q1 QF
  rw [truncf_apply]
  refine (cast128 _ y).trans ((Memref.IsWhole.readAt_unread _ _ _ _).trans ?_)
  refine row_congr _ _ _ _ ?_ ?_
  · show 128 * j.val + 1 * (y 0).val = _
    omega
  · exact Fin.ext (show 0 + 1 * (y 1).val = (y 1).val by omega)

theorem w4_eq {ac ap : Memref sig .tc .vmem S1x1x2048x128 .f32} (hc : ac.IsWhole) (hp : ap.IsWhole)
    (xc xp : Vec Ideal S1x1x2048x128 .f32) (j : Fin 16) : w4 hc hp xc xp j = WF 4 (j.val / 4) (j.val % 4) xc xp := by
  funext y
  have hy : (y 0).val < 256 := (y 0).isLt
  unfold w4 WF win
  split
  · rw [truncf_apply, cat_apply]
    split
    · rw [if_pos (by omega)]
      refine (cast128 _ _).trans ((Memref.IsWhole.readAt_unread _ _ _ _).trans ?_)
      refine row_congr _ _ _ _ ?_ ?_
      · show 1536 + j.val / 4 + 4 * (y 0).val = _
        omega
      · exact Fin.ext (show 0 + 1 * (y 1).val = (y 1).val by omega)
    · rw [if_neg (by omega)]
      refine (cast128 _ _).trans ((Memref.IsWhole.readAt_unread _ _ _ _).trans ?_)
      refine row_congr _ _ _ _ ?_ ?_
      · show j.val / 4 + 4 * ((y 0).val - 128) = _
        omega
      · exact Fin.ext (show 0 + 1 * (y 1).val = (y 1).val by omega)
  · rw [truncf_apply, if_neg (by omega)]
    refine (cast256 _ _).trans ((Memref.IsWhole.readAt_unread _ _ _ _).trans ?_)
    refine row_congr _ _ _ _ ?_ ?_
    · show j.val / 4 + 512 * (j.val % 4 - 1) + 4 * (y 0).val = _
      omega
    · exact Fin.ext (show 0 + 1 * (y 1).val = (y 1).val by omega)

theorem w1_eq {ac ap : Memref sig .tc .vmem S1x1x2048x128 .f32} (hc : ac.IsWhole) (hp : ap.IsWhole)
    (xc xp : Vec Ideal S1x1x2048x128 .f32) (j : Fin 16) : w1 hc hp xc xp j = WF 1 0 j.val xc xp := by
  funext y
  have hy : (y 0).val < 256 := (y 0).isLt
  unfold w1 WF win
  split
  · rw [truncf_apply, cat_apply]
    split
    · rw [if_pos (by omega)]
      refine (cast128 _ _).trans ((Memref.IsWhole.readAt_unread _ _ _ _).trans ?_)
      refine row_congr _ _ _ _ ?_ ?_
      · show 1920 + 1 * (y 0).val = _
        omega
      · exact Fin.ext (show 0 + 1 * (y 1).val = (y 1).val by omega)
    · rw [if_neg (by omega)]
      refine (cast128 _ _).trans ((Memref.IsWhole.readAt_unread _ _ _ _).trans ?_)
      refine row_congr _ _ _ _ ?_ ?_
      · show 0 + 1 * ((y 0).val - 128) = _
        omega
      · exact Fin.ext (show 0 + 1 * (y 1).val = (y 1).val by omega)
  · rw [truncf_apply, if_neg (by omega)]
    refine (cast256 _ _).trans ((Memref.IsWhole.readAt_unread _ _ _ _).trans ?_)
    refine row_congr _ _ _ _ ?_ ?_
    · show 128 * (j.val - 1) + 1 * (y 0).val = _
      omega
    · exact Fin.ext (show 0 + 1 * (y 1).val = (y 1).val by omega)

theorem m4_eq (j : Fin 16) : p.m4 j = MF p.i (j.val % 4) := rfl
theorem m1_eq (j : Fin 16) : p.m1 j = MF p.i j.val := rfl

/-- The staged buffer: slice `o` holds the rows of class `o` modulo 4. -/
theorem canon_stgs {a : Memref sig .tc .vmem S1x1x2048x128 .f32} (h : a.IsWhole) (x : Vec Ideal S1x1x2048x128 .f32)
    (y : S4x512x128.Idx) : View.canon (Val := Elt Ideal) (stgs h x) y = row x ((y 0).val + 4 * (y 1).val) (y 2) := by
  have h0 : (y 0).val < 4 := (y 0).isLt
  have h1 : (y 1).val < 512 := (y 1).isLt
  refine View.canon_apply_of_pieces (Val := Elt Ideal) (e := .f32) (fun y : S4x512x128.Idx => row x ((y 0).val + 4 * (y 1).val) (y 2)) _ ?_ y ?_
  · intro q hq z
    obtain ⟨o, -, rfl⟩ := List.mem_map.mp hq
    unfold stg
    have hz : (z 0).val < 1 := (z 0).isLt
    dsimp only
    refine (cast512 _ _).trans ((Memref.IsWhole.readAt_unread _ _ _ _).trans ?_)
    refine row_congr _ _ _ _ ?_ ?_
    · show o.val + 4 * (z 1).val = (o.val + 1 * (z 0).val) + 4 * (0 + 1 * (z 1).val)
      omega
    · exact Fin.ext (show 0 + 1 * (z 2).val = 0 + 1 * (z 2).val by omega)
  · refine ⟨stg h x ⟨(y 0).val, h0⟩, List.mem_map.mpr ⟨⟨(y 0).val, h0⟩, ?_, rfl⟩, ?_⟩
    · match (⟨(y 0).val, h0⟩ : Fin 4) with
      | 0 | 1 | 2 | 3 => decide
    · refine LoadRect.mem_set _ |>.mpr fun b => ?_
      match b with
      | ⟨0, _⟩ => exact ⟨0, by show 0 < 1; omega, by show (y 0).val = (y 0).val + 1 * 0; omega⟩
      | ⟨1, _⟩ => exact ⟨(y 1).val, h1, by show (y 1).val = 0 + 1 * (y 1).val; omega⟩
      | ⟨2, _⟩ => exact ⟨(y 2).val, (y 2).isLt, by show (y 2).val = 0 + 1 * (y 2).val; omega⟩

theorem cast16 (v : S1x128x128.Idx → EReal) (y : S128x128.Idx) :
    shapeCast S128x128 v shapeCasts_S1x128x128_S128x128 y = v (ix3 (0 : Fin 1) (y 0) (y 1)) := by
  pointwise

theorem ld16_apply (m : Memref sig .tc .vmem S4x512x128 .f32) {a : Memref sig .tc .vmem S1x1x2048x128 .f32} (h : a.IsWhole)
    (x : Vec Ideal S1x1x2048x128 .f32) (r : Fin 16) (y : S128x128.Idx) :
    ld16 m (stgs h x) r y = row x (r.val + 16 * (y 0).val) (y 1) := by
  unfold ld16
  refine (cast16 _ _).trans ?_
  rw [View.readCov_eq_canon']
  refine (canon_stgs h x _).trans ?_
  refine congrArg₂ (row x) ?_ ?_
  · show (r.val % 4 + 1 * 0) + 4 * (r.val / 4 + 4 * (y 0).val) = _
    omega
  · exact Fin.ext (show 0 + 1 * (y 1).val = (y 1).val by omega)

theorem q16_eq (r : Fin 16) : p.q16 r = QF 16 r.val 0 p.x0 := by
  funext y
  unfold q16 QF
  rw [truncf_apply]
  refine (ld16_apply _ _ _ _ _).trans ?_
  simp only [Nat.mul_zero, Nat.zero_add]

theorem w16_eq (mp mc : Memref sig .tc .vmem S4x512x128 .f32) {ap ac : Memref sig .tc .vmem S1x1x2048x128 .f32} (hp : ap.IsWhole)
    (hc : ac.IsWhole) (xp xc : Vec Ideal S1x1x2048x128 .f32) (r : Fin 16) :
    w16 mp mc (stgs hp xp) (stgs hc xc) r = WF 16 r.val 0 xc xp := by
  funext y
  have hy : (y 0).val < 256 := (y 0).isLt
  unfold w16 WF win
  rw [truncf_apply, cat_apply]
  split
  · rw [if_pos (by omega), ld16_apply]
    refine congrArg₂ (row xp) ?_ rfl
    show r.val + 16 * (y 0).val = _
    omega
  · rw [if_neg (by omega), ld16_apply]
    refine congrArg₂ (row xc) ?_ rfl
    show r.val + 16 * ((y 0).val - 128) = _
    omega

/-- The output of dilation `d` at row `n`, lane `l` of the block. -/
def O (d n : ℕ) (l : Fin 128) : EReal :=
  bO (MF p.i (n / d / 128)) (QF d (n % d) (n / d / 128) p.x0) (WF d (n % d) (n / d / 128) p.x1 p.x3)
    (WF d (n % d) (n / d / 128) p.x2 p.x4) (ix2 (⟨n / d % 128, Nat.mod_lt _ (by decide)⟩ : Fin 128) l)

/-- Its log denominator. -/
def L (d n : ℕ) (l : Fin 128) : EReal :=
  bL (MF p.i (n / d / 128)) (QF d (n % d) (n / d / 128) p.x0) (WF d (n % d) (n / d / 128) p.x1 p.x3)
    (ix2 (⟨n / d % 128, Nat.mod_lt _ (by decide)⟩ : Fin 128) l)

end Pt

theorem stO_apply (A B : S128x128.Idx → Elt Ideal .f32) (mask : IVec S128x256 1) (q : FVec Ideal S128x128 .bf16)
    (k v : FVec Ideal S256x128 .bf16) (y : S128x128.Idx) :
    Pt.stO A B mask q k v y = sO (A y) (B y) (bO mask q k v y) (bL mask q k y) := by
  unfold Pt.stO mO tot sO
  rw [shapeCast_self]
  rfl

theorem stL_apply (B : S128x128.Idx → Elt Ideal .f32) (mask : IVec S128x256 1) (q : FVec Ideal S128x128 .bf16)
    (k : FVec Ideal S256x128 .bf16) (y : S128x128.Idx) :
    Pt.stL B mask q k y = sL (B y) (bL mask q k y) := by
  unfold Pt.stL mL tot sL
  rw [shapeCast_self]
  rfl

/-- A store over earlier ones, where both are known. -/
theorem canon_upd {s : Shape} (r : Rect s) (w : r.shape.Idx → Elt Ideal .f32) (L : List (View.Piece (Elt Ideal) s .f32))
    (new : s.Idx → EReal) (P : Prop) [Decidable P] (y : s.Idx) (hw : ∀ x, r.emb x = y → w x = new y)
    (hP : P ↔ y ∈ r.set) :
    View.canon (Val := Elt Ideal) (⟨r, w⟩ :: L) y = if P then new y else View.canon (Val := Elt Ideal) L y := by
  split
  · next h =>
    obtain ⟨x, rfl⟩ := r.exists_idx_of_mem (hP.mp h)
    exact (View.canon_cons_emb r w L x).trans (hw x rfl)
  · next h =>
    exact View.canon_cons_of_not_mem _ _ fun h' => h (hP.mpr h')

namespace Pt

variable (p : Pt Ideal)

theorem mem_rect16 (r : Fin 16) (y : S4x512x128.Idx) : (y 0).val + 4 * ((y 1).val % 4) = r.val ↔ y ∈ (rect16 r).set := by
  have h0 : (y 0).val < 4 := (y 0).isLt
  have h1 : (y 1).val < 512 := (y 1).isLt
  constructor
  · intro h
    refine LoadRect.mem_set _ |>.mpr fun b => ?_
    match b with
    | ⟨0, _⟩ => exact ⟨0, by show 0 < 1; omega, by show (y 0).val = r.val % 4 + 1 * 0; omega⟩
    | ⟨1, _⟩ => exact ⟨(y 1).val / 4, by show _ < 128; omega, by show (y 1).val = r.val / 4 + 4 * ((y 1).val / 4); omega⟩
    | ⟨2, _⟩ => exact ⟨(y 2).val, (y 2).isLt, by show (y 2).val = 0 + 1 * (y 2).val; omega⟩
  · intro h
    obtain ⟨x, rfl⟩ := (rect16 r).exists_idx_of_mem h
    have hx : (x 0).val < 1 := (x 0).isLt
    have hx1 : (x 1).val < 128 := (x 1).isLt
    show (r.val % 4 + 1 * (x 0).val) + 4 * ((r.val / 4 + 4 * (x 1).val) % 4) = r.val
    omega

theorem mem_rect4 (j : Fin 16) (y : S2048x128.Idx) : (y 0).val % 4 * 4 + (y 0).val / 512 = j.val ↔ y ∈ (rect4 j).set := by
  have h0 : (y 0).val < 2048 := (y 0).isLt
  constructor
  · intro h
    have ha : j.val / 4 = (y 0).val % 4 := by omega
    have hb : j.val % 4 = (y 0).val / 512 := by omega
    have hc : (y 0).val / 512 = (y 0).val / 4 / 128 := by rw [Nat.div_div_eq_div_mul]
    refine LoadRect.mem_set _ |>.mpr fun b => ?_
    match b with
    | ⟨0, _⟩ => exact ⟨(y 0).val / 4 % 128, Nat.mod_lt _ (by decide), by
        show (y 0).val = j.val / 4 + 512 * (j.val % 4) + 4 * ((y 0).val / 4 % 128)
        rw [ha, hb, hc]
        generalize (y 0).val = t
        omega⟩
    | ⟨1, _⟩ => exact ⟨(y 1).val, (y 1).isLt, by show (y 1).val = 0 + 1 * (y 1).val; omega⟩
  · intro h
    obtain ⟨x, rfl⟩ := (rect4 j).exists_idx_of_mem h
    have hx : (x 0).val < 128 := (x 0).isLt
    show (j.val / 4 + 512 * (j.val % 4) + 4 * (x 0).val) % 4 * 4 + (j.val / 4 + 512 * (j.val % 4) + 4 * (x 0).val) / 512 = j.val
    have hj := j.isLt
    have e := Nat.div_add_mod j.val 4
    revert hx hj e
    generalize j.val / 4 = a
    generalize hb : j.val % 4 = b
    have hb' : b < 4 := hb ▸ Nat.mod_lt _ (by decide)
    generalize (x 0).val = t
    intro ht hj e
    have e1 : (a + 512 * b + 4 * t) % 4 = a := by omega
    have e2 : (a + 512 * b + 4 * t) / 512 = b := by omega
    omega

theorem mem_rect1 (j : Fin 16) (y : S2048x128.Idx) : (y 0).val / 128 = j.val ↔ y ∈ (rect1 j).set := by
  have h0 : (y 0).val < 2048 := (y 0).isLt
  constructor
  · intro h
    refine LoadRect.mem_set _ |>.mpr fun b => ?_
    match b with
    | ⟨0, _⟩ => exact ⟨(y 0).val % 128, Nat.mod_lt _ (by decide), by
        show (y 0).val = 128 * j.val + 1 * ((y 0).val % 128); omega⟩
    | ⟨1, _⟩ => exact ⟨(y 1).val, (y 1).isLt, by show (y 1).val = 0 + 1 * (y 1).val; omega⟩
  · intro h
    obtain ⟨x, rfl⟩ := (rect1 j).exists_idx_of_mem h
    have hx : (x 0).val < 128 := (x 0).isLt
    show (128 * j.val + 1 * (x 0).val) / 128 = j.val
    omega

theorem cast16' (v : S128x128.Idx → EReal) (y : S1x128x128.Idx) :
    shapeCast S1x128x128 v shapeCasts_S128x128_S1x128x128 y = v (ix2 (y 1) (y 2)) := by
  pointwise

theorem mem_all (r : Fin 16) : r ∈ ([15, 14, 13, 12, 11, 10, 9, 8, 7, 6, 5, 4, 3, 2, 1, 0] : List (Fin 16)) := by
  revert r; decide

/-- The staged outputs of dilation 16. -/
theorem canon_f16 (y : S4x512x128.Idx) :
    View.canon (Val := Elt Ideal) (([15, 14, 13, 12, 11, 10, 9, 8, 7, 6, 5, 4, 3, 2, 1, 0] : List (Fin 16)).map p.f16) y
      = p.O 16 ((y 0).val + 4 * (y 1).val) (y 2) := by
  have h0 : (y 0).val < 4 := (y 0).isLt
  have h1 : (y 1).val < 512 := (y 1).isLt
  refine View.canon_apply_of_pieces (Val := Elt Ideal) (e := .f32) (fun y : S4x512x128.Idx => p.O 16 ((y 0).val + 4 * (y 1).val) (y 2)) _ ?_ y ?_
  · intro q hq z
    obtain ⟨r, -, rfl⟩ := List.mem_map.mp hq
    have hz : (z 0).val < 1 := (z 0).isLt
    have hz1 : (z 1).val < 128 := (z 1).isLt
    have e : ((rect16 r).emb z 0).val + 4 * ((rect16 r).emb z 1).val = r.val + 16 * (z 1).val := by
      show (r.val % 4 + 1 * (z 0).val) + 4 * (r.val / 4 + 4 * (z 1).val) = _
      omega
    have el : (rect16 r).emb z 2 = z 2 := Fin.ext (show 0 + 1 * (z 2).val = (z 2).val by omega)
    refine Eq.trans ?_ (congrArg₂ (p.O 16) e el).symm
    unfold f16
    dsimp only
    refine (cast16' _ _).trans ?_
    rw [q16_eq, w16_eq, w16_eq]
    unfold O
    have e1 : (r.val + 16 * (z 1).val) / 16 / 128 = 0 := by omega
    have e2 : (r.val + 16 * (z 1).val) % 16 = r.val := by omega
    have e3 : (⟨(r.val + 16 * (z 1).val) / 16 % 128, Nat.mod_lt _ (by decide)⟩ : Fin 128) = z 1 :=
      Fin.ext (show (r.val + 16 * (z 1).val) / 16 % 128 = (z 1).val by omega)
    rw [e1, e2, e3]
    rfl
  · have hr : (y 0).val + 4 * ((y 1).val % 4) < 16 := by omega
    exact ⟨p.f16 ⟨_, hr⟩, List.mem_map.mpr ⟨⟨_, hr⟩, mem_all _, rfl⟩, (mem_rect16 ⟨_, hr⟩ y).mp rfl⟩

/-- The staged log denominators of dilation 16. -/
theorem canon_l16 (y : S4x512x128.Idx) :
    View.canon (Val := Elt Ideal) (([15, 14, 13, 12, 11, 10, 9, 8, 7, 6, 5, 4, 3, 2, 1, 0] : List (Fin 16)).map p.l16) y
      = p.L 16 ((y 0).val + 4 * (y 1).val) (y 2) := by
  have h0 : (y 0).val < 4 := (y 0).isLt
  have h1 : (y 1).val < 512 := (y 1).isLt
  refine View.canon_apply_of_pieces (Val := Elt Ideal) (e := .f32) (fun y : S4x512x128.Idx => p.L 16 ((y 0).val + 4 * (y 1).val) (y 2)) _ ?_ y ?_
  · intro q hq z
    obtain ⟨r, -, rfl⟩ := List.mem_map.mp hq
    have hz : (z 0).val < 1 := (z 0).isLt
    have hz1 : (z 1).val < 128 := (z 1).isLt
    have e : ((rect16 r).emb z 0).val + 4 * ((rect16 r).emb z 1).val = r.val + 16 * (z 1).val := by
      show (r.val % 4 + 1 * (z 0).val) + 4 * (r.val / 4 + 4 * (z 1).val) = _
      omega
    have el : (rect16 r).emb z 2 = z 2 := Fin.ext (show 0 + 1 * (z 2).val = (z 2).val by omega)
    refine Eq.trans ?_ (congrArg₂ (p.L 16) e el).symm
    unfold l16
    dsimp only
    refine (cast16' _ _).trans ?_
    rw [q16_eq, w16_eq]
    unfold L
    have e1 : (r.val + 16 * (z 1).val) / 16 / 128 = 0 := by omega
    have e2 : (r.val + 16 * (z 1).val) % 16 = r.val := by omega
    have e3 : (⟨(r.val + 16 * (z 1).val) / 16 % 128, Nat.mod_lt _ (by decide)⟩ : Fin 128) = z 1 :=
      Fin.ext (show (r.val + 16 * (z 1).val) / 16 % 128 = (z 1).val by omega)
    rw [e1, e2, e3]
    rfl
  · have hr : (y 0).val + 4 * ((y 1).val % 4) < 16 := by omega
    exact ⟨p.l16 ⟨_, hr⟩, List.mem_map.mpr ⟨⟨_, hr⟩, mem_all _, rfl⟩, (mem_rect16 ⟨_, hr⟩ y).mp rfl⟩

theorem castB (v : S1x512x128.Idx → EReal) (y : S512x128.Idx) :
    shapeCast S512x128 (shapeCast S512x128 v shapeCasts_S1x512x128_S512x128) shapeCasts_S512x128_S512x128 y
      = v (ix3 (0 : Fin 1) (y 0) (y 1)) := by
  pointwise

/-- The staged slices, stored back at their rows. -/
theorem canon_back (a : Memref sig .tc .vmem S4x512x128 .f32) (Ls : List (View.Piece (Elt Ideal) S4x512x128 .f32))
    (G : ℕ → Fin 128 → EReal) (hG : ∀ y : S4x512x128.Idx, View.canon (Val := Elt Ideal) Ls y = G ((y 0).val + 4 * (y 1).val) (y 2))
    (y : S2048x128.Idx) :
    View.canon (Val := Elt Ideal) (([3, 2, 1, 0] : List (Fin 4)).map (back a Ls)) y = G (y 0).val (y 1) := by
  have h0 : (y 0).val < 2048 := (y 0).isLt
  refine View.canon_apply_of_pieces (Val := Elt Ideal) (e := .f32) (fun y : S2048x128.Idx => G (y 0).val (y 1)) _ ?_ y ?_
  · intro q hq z
    obtain ⟨o, -, rfl⟩ := List.mem_map.mp hq
    unfold back
    dsimp only
    refine (castB _ _).trans ?_
    rw [View.readCov_eq_canon']
    refine (hG _).trans ?_
    refine congrArg₂ G ?_ ?_
    · show (o.val + 1 * 0) + 4 * (0 + 1 * (z 0).val) = o.val + 4 * (z 0).val
      omega
    · exact Fin.ext (show 0 + 1 * (z 1).val = 0 + 1 * (z 1).val from rfl)
  · have h4 : (y 0).val % 4 < 4 := by omega
    refine ⟨back a Ls ⟨(y 0).val % 4, h4⟩, List.mem_map.mpr ⟨⟨(y 0).val % 4, h4⟩, ?_, rfl⟩, ?_⟩
    · match (⟨(y 0).val % 4, h4⟩ : Fin 4) with
      | 0 | 1 | 2 | 3 => decide
    · refine LoadRect.mem_set _ |>.mpr fun b => ?_
      match b with
      | ⟨0, _⟩ => exact ⟨(y 0).val / 4, by show _ < 512; omega, by show (y 0).val = (y 0).val % 4 + 4 * ((y 0).val / 4); omega⟩
      | ⟨1, _⟩ => exact ⟨(y 1).val, (y 1).isLt, by show (y 1).val = 0 + 1 * (y 1).val; omega⟩

/-- The output after dilations 16 and 4. -/
def O' (n : ℕ) (l : Fin 128) : EReal := sO (p.O 16 n l) (p.L 16 n l) (p.O 4 n l) (p.L 4 n l)
/-- Its log denominator. -/
def L' (n : ℕ) (l : Fin 128) : EReal := sL (p.L 16 n l) (p.L 4 n l)
/-- The output after all three. -/
def O'' (n : ℕ) (l : Fin 128) : EReal := sO (p.O' n l) (p.L' n l) (p.O 1 n l) (p.L 1 n l)
/-- Its log denominator. -/
def L'' (n : ℕ) (l : Fin 128) : EReal := sL (p.L' n l) (p.L 1 n l)

/-- Reading block `j` of dilation 4 at one of its rows. -/
theorem blk4 (j : Fin 16) (x : S128x128.Idx) (n : ℕ) (hn : j.val / 4 + 512 * (j.val % 4) + 4 * (x 0).val = n) :
    bO (p.m4 j) (p.q4 j) (w4 p.harg4 p.harg6 p.x1 p.x3 j) (w4 p.harg5 p.harg7 p.x2 p.x4 j) x = p.O 4 n (x 1)
    ∧ bL (p.m4 j) (p.q4 j) (w4 p.harg4 p.harg6 p.x1 p.x3 j) x = p.L 4 n (x 1) := by
  have hx : (x 0).val < 128 := (x 0).isLt
  have e1 : n / 4 / 128 = j.val % 4 := by omega
  have e2 : n % 4 = j.val / 4 := by omega
  have e3 : (⟨n / 4 % 128, Nat.mod_lt _ (by decide)⟩ : Fin 128) = x 0 := Fin.ext (show n / 4 % 128 = (x 0).val by omega)
  rw [m4_eq, q4_eq, w4_eq, w4_eq]
  unfold O L
  rw [e1, e2, e3]
  have ex : ix2 (x 0) (x 1) = x := ix2_eta x
  constructor
  · exact congrArg _ ex.symm
  · exact congrArg _ ex.symm

/-- Reading block `j` of dilation 1 at one of its rows. -/
theorem blk1 (j : Fin 16) (x : S128x128.Idx) (n : ℕ) (hn : 128 * j.val + 1 * (x 0).val = n) :
    bO (p.m1 j) (p.q1 j) (w1 p.harg4 p.harg6 p.x1 p.x3 j) (w1 p.harg5 p.harg7 p.x2 p.x4 j) x = p.O 1 n (x 1)
    ∧ bL (p.m1 j) (p.q1 j) (w1 p.harg4 p.harg6 p.x1 p.x3 j) x = p.L 1 n (x 1) := by
  have hx : (x 0).val < 128 := (x 0).isLt
  have e1 : n / 1 / 128 = j.val := by omega
  have e2 : n % 1 = 0 := by omega
  have e3 : (⟨n / 1 % 128, Nat.mod_lt _ (by decide)⟩ : Fin 128) = x 0 := Fin.ext (show n / 1 % 128 = (x 0).val by omega)
  rw [m1_eq, q1_eq, w1_eq, w1_eq]
  unfold O L
  rw [e1, e2, e3]
  have ex : ix2 (x 0) (x 1) = x := ix2_eta x
  constructor
  · exact congrArg _ ex.symm
  · exact congrArg _ ex.symm

theorem state4_l : ∀ (n : ℕ) (_ : n ≤ 16) (y : S2048x128.Idx), View.canon (Val := Elt Ideal) (p.hs1 n) y
    = if (y 0).val % 4 * 4 + (y 0).val / 512 < n then p.L' (y 0).val (y 1) else p.L 16 (y 0).val (y 1)
  | 0, _, y => by
    rw [hs1_zero, if_neg (by omega)]
    exact canon_back p.arg17 _ (p.L 16) p.canon_l16 y
  | n + 1, h, y => by
    refine (congrArg (fun Ls => View.canon (Val := Elt Ideal) Ls y) (p.hs1_four ⟨n, h⟩)).trans ((canon_upd _ _ _ (fun y => p.L' (y 0).val (y 1)) ((y 0).val % 4 * 4 + (y 0).val / 512 = n) y ?_ (mem_rect4 ⟨n, h⟩ y)).trans ?_)
    swap
    · refine (congrArg (fun t : EReal => if (y 0).val % 4 * 4 + (y 0).val / 512 = n then p.L' (y 0).val (y 1) else t) (state4_l n (by omega) y)).trans ?_
      split_ifs <;> first | (exfalso; omega) | rfl
    · rintro x rfl
      have hm := (mem_rect4 ⟨n, h⟩ _).mpr ((rect4 ⟨n, h⟩).idx_mem x)
      refine (stL_apply _ _ _ _ _).trans ?_
      rw [(p.blk4 ⟨n, h⟩ x _ rfl).2, View.readCov_eq_canon']
      show sL (View.canon (Val := Elt Ideal) (p.hs1 n) _) _ = _
      rw [state4_l n (by omega), if_neg (Nat.not_lt.mpr (Nat.le_of_eq hm.symm))]
      have el : (rect4 ⟨n, h⟩).emb x 1 = x 1 := Fin.ext (show 0 + 1 * (x 1).val = (x 1).val by omega)
      show sL (p.L 16 _ ((rect4 ⟨n, h⟩).emb x 1)) _ = p.L' _ ((rect4 ⟨n, h⟩).emb x 1)
      rw [el]
      rfl

theorem state4_o : ∀ (n : ℕ) (_ : n ≤ 16) (y : S2048x128.Idx), View.canon (Val := Elt Ideal) (p.hs0 n) y
    = if (y 0).val % 4 * 4 + (y 0).val / 512 < n then p.O' (y 0).val (y 1) else p.O 16 (y 0).val (y 1)
  | 0, _, y => by
    rw [hs0_zero, if_neg (by omega)]
    exact canon_back p.arg16 _ (p.O 16) p.canon_f16 y
  | n + 1, h, y => by
    refine (congrArg (fun Ls => View.canon (Val := Elt Ideal) Ls y) (p.hs0_four ⟨n, h⟩)).trans ((canon_upd _ _ _ (fun y => p.O' (y 0).val (y 1)) ((y 0).val % 4 * 4 + (y 0).val / 512 = n) y ?_ (mem_rect4 ⟨n, h⟩ y)).trans ?_)
    swap
    · refine (congrArg (fun t : EReal => if (y 0).val % 4 * 4 + (y 0).val / 512 = n then p.O' (y 0).val (y 1) else t) (state4_o n (by omega) y)).trans ?_
      split_ifs <;> first | (exfalso; omega) | rfl
    · rintro x rfl
      have hm := (mem_rect4 ⟨n, h⟩ _).mpr ((rect4 ⟨n, h⟩).idx_mem x)
      refine (stO_apply _ _ _ _ _ _ _).trans ?_
      rw [(p.blk4 ⟨n, h⟩ x _ rfl).2, (p.blk4 ⟨n, h⟩ x _ rfl).1, View.readCov_eq_canon', View.readCov_eq_canon']
      show sO (View.canon (Val := Elt Ideal) (p.hs0 n) _) (View.canon (Val := Elt Ideal) (p.hs1 n) _) _ _ = _
      rw [state4_o n (by omega), state4_l p n (by omega), if_neg (Nat.not_lt.mpr (Nat.le_of_eq hm.symm)), if_neg (Nat.not_lt.mpr (Nat.le_of_eq hm.symm))]
      have el : (rect4 ⟨n, h⟩).emb x 1 = x 1 := Fin.ext (show 0 + 1 * (x 1).val = (x 1).val by omega)
      show sO (p.O 16 _ ((rect4 ⟨n, h⟩).emb x 1)) (p.L 16 _ ((rect4 ⟨n, h⟩).emb x 1)) _ _ = p.O' _ ((rect4 ⟨n, h⟩).emb x 1)
      rw [el]
      rfl

theorem state1_l : ∀ (n : ℕ) (_ : n ≤ 15) (y : S2048x128.Idx), View.canon (Val := Elt Ideal) (p.hs1 (16 + n)) y
    = if (y 0).val / 128 < n then p.L'' (y 0).val (y 1) else p.L' (y 0).val (y 1)
  | 0, _, y => by
    have h0 : (y 0).val < 2048 := (y 0).isLt
    rw [if_neg (by omega)]
    refine (p.state4_l 16 le_rfl y).trans ?_
    rw [if_pos (by omega)]
  | n + 1, h, y => by
    have h' : n < 16 := by omega
    refine (congrArg (fun Ls => View.canon (Val := Elt Ideal) Ls y) (p.hs1_one ⟨n, h⟩)).trans ((canon_upd _ _ _ (fun y => p.L'' (y 0).val (y 1)) ((y 0).val / 128 = n) y ?_ (mem_rect1 ⟨n, h'⟩ y)).trans ?_)
    swap
    · refine (congrArg (fun t : EReal => if (y 0).val / 128 = n then p.L'' (y 0).val (y 1) else t) (state1_l n (by omega) y)).trans ?_
      split_ifs <;> first | (exfalso; omega) | rfl
    · rintro x rfl
      have hm : ((rect1 (Fin.castSucc ⟨n, h⟩)).idx x 0).val / 128 = n := (mem_rect1 ⟨n, h'⟩ _).mpr ((rect1 ⟨n, h'⟩).idx_mem x)
      refine (stL_apply _ _ _ _ _).trans ?_
      rw [(p.blk1 (Fin.castSucc ⟨n, h⟩) x _ rfl).2, View.readCov_eq_canon']
      show sL (View.canon (Val := Elt Ideal) (p.hs1 (16 + n)) _) _ = _
      rw [state1_l n (by omega), if_neg (Nat.not_lt.mpr (Nat.le_of_eq hm.symm))]
      have el : (rect1 ⟨n, h'⟩).emb x 1 = x 1 := Fin.ext (show 0 + 1 * (x 1).val = (x 1).val by omega)
      show sL (p.L' _ ((rect1 ⟨n, h'⟩).emb x 1)) _ = p.L'' _ ((rect1 ⟨n, h'⟩).emb x 1)
      rw [el]
      rfl

theorem state1_o : ∀ (n : ℕ) (_ : n ≤ 16) (y : S2048x128.Idx), View.canon (Val := Elt Ideal) (p.hs0 (16 + n)) y
    = if (y 0).val / 128 < n then p.O'' (y 0).val (y 1) else p.O' (y 0).val (y 1)
  | 0, _, y => by
    have h0 : (y 0).val < 2048 := (y 0).isLt
    rw [if_neg (by omega)]
    refine (p.state4_o 16 le_rfl y).trans ?_
    rw [if_pos (by omega)]
  | n + 1, h, y => by
    refine (congrArg (fun Ls => View.canon (Val := Elt Ideal) Ls y) (p.hs0_one ⟨n, h⟩)).trans ((canon_upd _ _ _ (fun y => p.O'' (y 0).val (y 1)) ((y 0).val / 128 = n) y ?_ (mem_rect1 ⟨n, h⟩ y)).trans ?_)
    swap
    · refine (congrArg (fun t : EReal => if (y 0).val / 128 = n then p.O'' (y 0).val (y 1) else t) (state1_o n (by omega) y)).trans ?_
      split_ifs <;> first | (exfalso; omega) | rfl
    · rintro x rfl
      have hm := (mem_rect1 ⟨n, h⟩ _).mpr ((rect1 ⟨n, h⟩).idx_mem x)
      refine (stO_apply _ _ _ _ _ _ _).trans ?_
      rw [(p.blk1 ⟨n, h⟩ x _ rfl).2, (p.blk1 ⟨n, h⟩ x _ rfl).1, View.readCov_eq_canon', View.readCov_eq_canon']
      show sO (View.canon (Val := Elt Ideal) (p.hs0 (16 + n)) _) (View.canon (Val := Elt Ideal) (p.hs1 (16 + n)) _) _ _ = _
      rw [state1_o n (by omega), state1_l p n (by omega), if_neg (Nat.not_lt.mpr (Nat.le_of_eq hm.symm)), if_neg (Nat.not_lt.mpr (Nat.le_of_eq hm.symm))]
      have el : (rect1 ⟨n, h⟩).emb x 1 = x 1 := Fin.ext (show 0 + 1 * (x 1).val = (x 1).val by omega)
      show sO (p.O' _ ((rect1 ⟨n, h⟩).emb x 1)) (p.L' _ ((rect1 ⟨n, h⟩).emb x 1)) _ _ = p.O'' _ ((rect1 ⟨n, h⟩).emb x 1)
      rw [el]
      rfl

/-- The accumulator after all blocks. -/
theorem acc_final (y : S2048x128.Idx) : View.canon (Val := Elt Ideal) (p.hs0 32) y = p.O'' (y 0).val (y 1) := by
  have h0 : (y 0).val < 2048 := (y 0).isLt
  rw [p.state1_o 16 le_rfl y, if_pos (by omega)]

end Pt

end Cert.Attn

end
-- ==== Proof.Attn.Bits.lean ====
/- Small facts used on both sides: 32-bit comparisons of small numbers read as comparisons of integers, and the two
   constants of the attention. -/
module

public import Idealize.ShloMosaic.Lib.Pointwise

@[expose] public section

noncomputable section

namespace Cert.Attn

open Idealize.ShloMosaic

theorem toInt_nat (n : ℕ) (h : n < 2 ^ 31) : (BitVec.ofNat 32 n).toInt = n := by
  rw [BitVec.toInt_eq_toNat_bmod, BitVec.toNat_ofNat, Int.bmod_def]; split <;> omega

theorem toInt_addi (x y : BitVec 32) (hl : -2 ^ 31 ≤ x.toInt + y.toInt) (hu : x.toInt + y.toInt < 2 ^ 31) :
    (IntOp.addi x y).toInt = x.toInt + y.toInt := by
  rw [IntOp.addi, BitVec.toInt_add, Int.bmod_def]; split <;> omega

theorem toInt_subi (x y : BitVec 32) (hl : -2 ^ 31 ≤ x.toInt - y.toInt) (hu : x.toInt - y.toInt < 2 ^ 31) :
    (IntOp.subi x y).toInt = x.toInt - y.toInt := by
  rw [IntOp.subi, BitVec.toInt_sub, Int.bmod_def]; split <;> omega

theorem muli_nat (a b : ℕ) : IntOp.muli (BitVec.ofNat 32 a) (BitVec.ofNat 32 b) = BitVec.ofNat 32 (a * b) := by
  rw [IntOp.muli, BitVec.ofNat_mul]

theorem ofBool_one (b : Bool) : BitVec.ofBool b = 1#1 ↔ b = true := by cases b <;> decide

theorem sge_iff (x y : BitVec 32) : IntOp.cmpi .sge x y = 1#1 ↔ y.toInt ≤ x.toInt := by
  simp only [IntOp.cmpi, ofBool_one, BitVec.sle, decide_eq_true_eq]

theorem sle_iff (x y : BitVec 32) : IntOp.cmpi .sle x y = 1#1 ↔ x.toInt ≤ y.toInt := by
  simp only [IntOp.cmpi, ofBool_one, BitVec.sle, decide_eq_true_eq]

theorem slt_iff (x y : BitVec 32) : IntOp.cmpi .slt x y = 1#1 ↔ x.toInt < y.toInt := by
  simp only [IntOp.cmpi, ofBool_one, BitVec.slt, decide_eq_true_eq]

theorem sgt_iff (x y : BitVec 32) : IntOp.cmpi .sgt x y = 1#1 ↔ y.toInt < x.toInt := by
  simp only [IntOp.cmpi, ofBool_one, BitVec.slt, decide_eq_true_eq]

theorem andi_iff (x y : BitVec 1) : IntOp.andi x y = 1#1 ↔ x = 1#1 ∧ y = 1#1 := by
  revert x y; decide

theorem ori_iff (x y : BitVec 1) : IntOp.ori x y = 1#1 ↔ x = 1#1 ∨ y = 1#1 := by
  revert x y; decide

/-- The negative infinity of the masks. -/
theorem ofBits_bot : Ideal.ofBits .f32 4286578688#32 = ⊥ := by
  simp [Ideal.ofBits, Ideal.ieee]

/-- The scale of the scores, one over the square root of 64. -/
theorem ofBits_eighth : Ideal.ofBits .f32 1040187392#32 = ((1 / 8 : ℝ) : EReal) := by
  have : Ideal.ofBits .f32 1040187392#32 = ((1 * (2 ^ 23 + 0 : ℕ) * (2 : ℝ) ^ ((124 : Int) - 127 - 23) : ℝ) : EReal) := by
    simp [Ideal.ofBits, Ideal.ieee]
  rw [this]
  norm_num

theorem ofBits_zero : Ideal.ofBits .f32 0#32 = 0 := by
  simp [Ideal.ofBits, Ideal.ieee]

end Cert.Attn

end
-- ==== Proof.Attn.Eval.lean ====
/- One block of the attention kernel at one index: `bO` and `bL` at a row and a lane are the outputs and log denominators
   of `Spec` for the scores of that lane's head. -/
module

public import proofs.«01_k».proof.Proof.Attn.State
public import proofs.«01_k».proof.Proof.Attn.Bits

@[expose] public section

set_option maxRecDepth 16384

noncomputable section

namespace Cert.Attn

open Cert.KernelIdeal Cert.KernelIdeal.Gen Idealize.ShloMosaic Idealize.ShloMosaic.TcCoe

theorem sc_apply (w : FVec Ideal S1x128 .bf16) (mask : IVec S128x256 1) (q : FVec Ideal S128x128 .bf16) (k : FVec Ideal S256x128 .bf16)
    (i : Fin 128) (j : Fin 256) :
    sc w mask q k (ix2 i j)
      = if mask (ix2 i j) = 1#1 then ∑ x : Fin 128, (q (ix2 i x) * w (ix2 0 x)) * k (ix2 j x) else ⊥ := by
  pointwise [sc]
  rw [ofBits_bot]
  rfl

theorem rmax_apply (s : FVec Ideal S128x256 .f32) (i : Fin 128) :
    rmax s (ix2 i 0) = mx (fun j => s (ix2 i j)) := by
  pointwise [rmax]
  rw [ofBits_bot]
  rfl

theorem den_apply (s : FVec Ideal S128x256 .f32) (i : Fin 128) :
    den s (ix2 i 0) = dn (fun j => s (ix2 i j)) := by
  pointwise [den, ex]
  simp only [rmax_apply]
  rfl

theorem oh_apply (s : FVec Ideal S128x256 .f32) (v : FVec Ideal S256x128 .bf16) (i : Fin 128) (l : Fin 128) :
    oh s v (ix2 i l) = ou (fun j => s (ix2 i j)) (fun j => v (ix2 j l)) := by
  pointwise [oh, ex, den]
  simp only [rmax_apply]
  rfl

theorem lh_apply (s : FVec Ideal S128x256 .f32) (i : Fin 128) :
    lh s (ix2 i 0) = ls (fun j => s (ix2 i j)) := by
  have : lh s (ix2 i 0) = rmax s (ix2 i 0) + Ideal.log (den s (ix2 i 0)) := rfl
  rw [this, rmax_apply, den_apply]
  rfl

theorem lane_iff (l : Fin 128) : IntOp.cmpi .slt (BitVec.ofNat 32 l.val) 64#32 = 1#1 ↔ l.val / 64 = 0 := by
  have := l.isLt
  rw [slt_iff, toInt_nat _ (by omega), toInt_nat 64 (by decide)]
  omega

theorem pay5_apply (l : Fin 128) : (k0_pay5 (F := Ideal)) (ix2 0 l) = if l.val / 64 = 0 then ((1 / 8 : ℝ) : EReal) else 0 := by
  pointwise [k0_pay5, k0_pay4]
  simp only [Scalar.select, lane_iff, ofBits_eighth, show (1 : BitVec 1) = 1#1 from rfl]

theorem pay6_apply (l : Fin 128) : (k0_pay6 (F := Ideal)) (ix2 0 l) = if l.val / 64 = 1 then ((1 / 8 : ℝ) : EReal) else 0 := by
  have := l.isLt
  pointwise [k0_pay6, k0_pay4]
  simp only [Scalar.select, lane_iff, ofBits_eighth, show (1 : BitVec 1) = 1#1 from rfl]
  split_ifs <;> first | rfl | omega

theorem hd_apply (i l : Fin 128) : hd (ix2 i l) = 1#1 ↔ l.val / 64 = 0 := by
  have : hd (ix2 i l) = IntOp.cmpi .slt (BitVec.ofNat 32 l.val) 64#32 := by pointwise [hd, k0_pay4]
  rw [this, lane_iff]

theorem col_apply (l : FVec Ideal S128x1 .f32) (y : S128x128.Idx) : col l y = l (ix2 (y 0) 0) := by
  pointwise [col]

theorem band_apply (i : Fin 128) (j : Fin 256) : band (ix2 i j) = 1#1 ↔ i.val ≤ j.val ∧ j.val ≤ 128 + i.val := by
  have hi := i.isLt
  have hj := j.isLt
  have h : band (ix2 i j) = IntOp.andi (IntOp.cmpi .sge (IntOp.subi (IntOp.addi 128#32 (BitVec.ofNat 32 i.val)) (BitVec.ofNat 32 j.val)) 0#32)
      (IntOp.cmpi .sle (IntOp.subi (IntOp.addi 128#32 (BitVec.ofNat 32 i.val)) (BitVec.ofNat 32 j.val)) 128#32) := by
    pointwise [band, k0_pay7]
  have e1 := toInt_nat i.val (by omega)
  have e2 := toInt_nat j.val (by omega)
  have e3 : (128#32).toInt = 128 := by decide
  have e4 : (0#32).toInt = 0 := by decide
  have e5 := toInt_addi 128#32 (BitVec.ofNat 32 i.val) (by omega) (by omega)
  have e6 := toInt_subi (IntOp.addi 128#32 (BitVec.ofNat 32 i.val)) (BitVec.ofNat 32 j.val) (by omega) (by omega)
  rw [h, andi_iff, sge_iff, sle_iff, e6, e5, e1, e2, e3, e4]
  omega

theorem pay8_apply (c : grid0.Coords) (hc : (c 2).val < 4) (i : Fin 128) (j : Fin 256) :
    k0_pay8 c (ix2 i j) = 1#1 ↔ 128 ≤ j.val ∨ 0 < (c 2).val := by
  have hj := j.isLt
  have h : k0_pay8 c (ix2 i j) = IntOp.ori (IntOp.cmpi .sge (BitVec.ofNat 32 j.val) 128#32)
      (IntOp.cmpi .sgt (BitVec.ofNat 32 (c 2).val) 0#32) := by
    pointwise [k0_pay8]
    rfl
  rw [h, ori_iff, sge_iff, sgt_iff, toInt_nat j.val (by omega), toInt_nat (c 2).val (by omega), toInt_nat 128 (by decide),
    toInt_nat 0 (by decide)]
  omega

/-- Where a block's mask is on. -/
theorem MF_apply (c : grid0.Coords) (hc : (c 2).val < 4) (b : ℕ) (i : Fin 128) (j : Fin 256) :
    MF c b (ix2 i j) = 1#1 ↔ i.val ≤ j.val ∧ j.val ≤ 128 + i.val ∧ (b = 0 → 128 ≤ j.val ∨ 0 < (c 2).val) := by
  unfold MF
  split_ifs with hb
  · have : andi band (k0_pay8 c) (ix2 i j) = IntOp.andi (band (ix2 i j)) (k0_pay8 c (ix2 i j)) := rfl
    rw [this, andi_iff, band_apply, pay8_apply c hc]
    tauto
  · rw [band_apply]; tauto

/-- The scores of row `i` for the head `h` of the pair. -/
def scores (mask : IVec S128x256 1) (q : FVec Ideal S128x128 .bf16) (k : FVec Ideal S256x128 .bf16) (i : Fin 128) (h : ℕ)
    (hh : h < 2) (j : Fin 256) : EReal :=
  if mask (ix2 i j) = 1#1 then
    (∑ e : Fin 64, q (ix2 i ⟨64 * h + e.val, by have := e.isLt; omega⟩) * k (ix2 j ⟨64 * h + e.val, by have := e.isLt; omega⟩))
      * ((1 / 8 : ℝ) : EReal)
  else ⊥

theorem sc_scores (w : FVec Ideal S1x128 .bf16) (mask : IVec S128x256 1) (q : FVec Ideal S128x128 .bf16)
    (k : FVec Ideal S256x128 .bf16) (i : Fin 128) (h : ℕ) (hh : h < 2)
    (hw : ∀ e : Fin 128, w (ix2 0 e) = if e.val / 64 = h then ((1 / 8 : ℝ) : EReal) else 0) :
    (fun j => sc w mask q k (ix2 i j)) = scores mask q k i h hh := by
  funext j
  rw [sc_apply, scores, head_sum h hh (fun x => q (ix2 i x)) (fun x => k (ix2 j x)) (fun x => w (ix2 0 x)) (1 / 8) (by norm_num) hw]

theorem scores_congr (mask : IVec S128x256 1) (q : FVec Ideal S128x128 .bf16) (k : FVec Ideal S256x128 .bf16) (i : Fin 128)
    (h h' : ℕ) (hh : h < 2) (hh' : h' < 2) (e : h = h') : scores mask q k i h hh = scores mask q k i h' hh' := by
  subst e; rfl

/-- A block's output at row `i`, lane `l`. -/
theorem bO_apply (mask : IVec S128x256 1) (q : FVec Ideal S128x128 .bf16) (k v : FVec Ideal S256x128 .bf16) (i l : Fin 128) :
    bO mask q k v (ix2 i l)
      = ou (scores mask q k i (l.val / 64) (by have := l.isLt; omega)) (fun j => v (ix2 j l)) := by
  have hl := l.isLt
  have : bO mask q k v (ix2 i l)
      = if hd (ix2 i l) = 1#1 then oh (sc k0_pay5 mask q k) v (ix2 i l) else oh (sc k0_pay6 mask q k) v (ix2 i l) := rfl
  rw [this]
  simp only [hd_apply, oh_apply]
  split_ifs with h
  · rw [sc_scores _ mask q k i 0 (by decide) pay5_apply]; rw [scores_congr mask q k i _ 0 _ (by decide) h]
  · have h' : l.val / 64 = 1 := by omega
    rw [sc_scores _ mask q k i 1 (by decide) pay6_apply]; rw [scores_congr mask q k i _ 1 _ (by decide) h']

/-- A block's log denominator at row `i`, lane `l`. -/
theorem bL_apply (mask : IVec S128x256 1) (q : FVec Ideal S128x128 .bf16) (k : FVec Ideal S256x128 .bf16) (i l : Fin 128) :
    bL mask q k (ix2 i l) = ls (scores mask q k i (l.val / 64) (by have := l.isLt; omega)) := by
  have hl := l.isLt
  have : bL mask q k (ix2 i l)
      = if hd (ix2 i l) = 1#1 then lh (sc k0_pay5 mask q k) (ix2 i 0) else lh (sc k0_pay6 mask q k) (ix2 i 0) := by
    have h5 := col_apply (lh (sc k0_pay5 mask q k)) (ix2 i l)
    have h6 := col_apply (lh (sc k0_pay6 mask q k)) (ix2 i l)
    exact (congrArg₂ (fun a b => if hd (ix2 i l) = 1#1 then a else b) h5 h6)
  rw [this]
  simp only [hd_apply, lh_apply]
  split_ifs with h
  · rw [sc_scores _ mask q k i 0 (by decide) pay5_apply]; rw [scores_congr mask q k i _ 0 _ (by decide) h]
  · have h' : l.val / 64 = 1 := by omega
    rw [sc_scores _ mask q k i 1 (by decide) pay6_apply]; rw [scores_congr mask q k i _ 1 _ (by decide) h']

end Cert.Attn

end
-- ==== Proof.Attn.Goal.lean ====
/- What the attention computes, written once for both programs: for one batch entry and one head, from its queries, keys
   and values by position, the output row of each dilation and their merge (`att`); and the kernel's accumulator at one grid
   point is that (`Pt.acc_att`). -/
module

public import proofs.«01_k».proof.Proof.Attn.Eval

@[expose] public section

set_option maxRecDepth 16384

noncomputable section

namespace Cert.Attn

open Cert.KernelIdeal Cert.KernelIdeal.Gen Idealize.ShloMosaic Idealize.ShloMosaic.TcCoe

/-- Window column `j` is seen from position `s` under dilation `d`. -/
def ok (d s j : ℕ) : Prop := s / d % 128 ≤ j ∧ j ≤ 128 + s / d % 128 ∧ 128 ≤ 128 * (s / d / 128) + j

instance (d s j : ℕ) : Decidable (ok d s j) := inferInstanceAs (Decidable (_ ∧ _ ∧ _))

/-- The position of window column `j`. -/
def pos (d s j : ℕ) : ℕ := s % d + d * (128 * (s / d / 128) + j - 128)

/-- The scores of position `s` under dilation `d`. -/
def S (Q K : ℕ → Fin 64 → EReal) (d s : ℕ) (j : Fin 256) : EReal :=
  if ok d s j.val then (∑ e, Q s e * K (pos d s j.val) e) * ((1 / 8 : ℝ) : EReal) else ⊥

/-- The output of dilation `d` at position `s`, for one value column. -/
def outD (Q K : ℕ → Fin 64 → EReal) (V : ℕ → EReal) (d s : ℕ) : EReal := ou (S Q K d s) (fun j => V (pos d s j.val))

/-- The log denominator of dilation `d` at position `s`. -/
def lseD (Q K : ℕ → Fin 64 → EReal) (d s : ℕ) : EReal := ls (S Q K d s)

/-- The three dilations merged, the coarsest first. -/
def att (Q K : ℕ → Fin 64 → EReal) (V : ℕ → EReal) (s : ℕ) : EReal :=
  sO (sO (outD Q K V 16 s) (lseD Q K 16 s) (outD Q K V 4 s) (lseD Q K 4 s)) (sL (lseD Q K 16 s) (lseD Q K 4 s))
    (outD Q K V 1 s) (lseD Q K 1 s)

/-- Real numbers only. -/
def Fin' (Q : ℕ → Fin 64 → EReal) : Prop := ∀ s e, ∃ r : ℝ, Q s e = r

theorem S_real_of_ok {Q K : ℕ → Fin 64 → EReal} (hQ : Fin' Q) (hK : Fin' K) (d s : ℕ) (j : Fin 256) (h : ok d s j.val) :
    ∃ r : ℝ, S Q K d s j = r := by
  choose fq hq using fun e => hQ s e
  choose fk hk using fun e => hK (pos d s j.val) e
  refine ⟨(∑ e, fq e * fk e) * (1 / 8), ?_⟩
  rw [S, if_pos h, EReal.coe_mul, coe_sum]
  congr 1
  refine Finset.sum_congr rfl fun e _ => ?_
  rw [hq, hk, EReal.coe_mul]

theorem S_real {Q K : ℕ → Fin 64 → EReal} (hQ : Fin' Q) (hK : Fin' K) (d s : ℕ) (j : Fin 256) :
    S Q K d s j = ⊥ ∨ ∃ r : ℝ, S Q K d s j = r := by
  by_cases h : ok d s j.val
  · exact .inr (S_real_of_ok hQ hK d s j h)
  · exact .inl (if_neg h)

/-- Every position sees itself. -/
theorem ok_self (d s : ℕ) : ok d s (128 + s / d % 128) := by
  unfold ok; omega

theorem lseD_real {Q K : ℕ → Fin 64 → EReal} (hQ : Fin' Q) (hK : Fin' K) (d s : ℕ) : ∃ L : ℝ, lseD Q K d s = L := by
  obtain ⟨r, hr⟩ := S_real_of_ok hQ hK d s ⟨128 + s / d % 128, by omega⟩ (ok_self d s)
  exact ls_real _ (S_real hQ hK d s) _ r hr

/-- Values matter only where the window is seen. -/
theorem ou_S {Q K : ℕ → Fin 64 → EReal} (hQ : Fin' Q) (hK : Fin' K) (d s : ℕ) (V : ℕ → EReal) (W : Fin 256 → EReal)
    (h : ∀ j : Fin 256, ok d s j.val → W j = V (pos d s j.val)) : ou (S Q K d s) W = outD Q K V d s := by
  obtain ⟨r, hr⟩ := S_real_of_ok hQ hK d s ⟨128 + s / d % 128, by omega⟩ (ok_self d s)
  obtain ⟨m, hm⟩ := mx_real _ (S_real hQ hK d s) _ r hr
  refine ou_congr _ _ _ (by rw [hm]; exact EReal.coe_ne_bot m) fun j hj => h j ?_
  by_contra hn
  exact hj (if_neg hn)

/-- One head of one batch entry, by position. -/
def feat (x : FVec Ideal S2x8192x8x64 .f32) (b : Fin 2) (h : Fin 8) (s : ℕ) (e : Fin 64) : EReal :=
  x (ix4 b (⟨s % 8192, Nat.mod_lt _ (by decide)⟩ : Fin 8192) h e)

/-- The attention over whole arrays, in the layout of the kernel's result: head pair, position, lane. -/
def AttOut (q k v : FVec Ideal S2x8192x8x64 .f32) (b : Fin 2) (hp : Fin 4) (s : Fin 8192) (l : Fin 128) : EReal :=
  att (feat q b ⟨2 * hp.val + l.val / 64, by have := l.isLt; have := hp.isLt; omega⟩)
    (feat k b ⟨2 * hp.val + l.val / 64, by have := l.isLt; have := hp.isLt; omega⟩)
    (fun n => feat v b ⟨2 * hp.val + l.val / 64, by have := l.isLt; have := hp.isLt; omega⟩ n ⟨l.val % 64, Nat.mod_lt _ (by decide)⟩)
    s.val

/-- Queries and keys are real numbers. -/
def Finite (x : FVec Ideal S2x8192x8x64 .f32) : Prop := ∀ i, ∃ r : ℝ, x i = r

theorem Finite.feat {x : FVec Ideal S2x8192x8x64 .f32} (h : Finite x) (b : Fin 2) (hd : Fin 8) : Fin' (Attn.feat x b hd) :=
  fun s e => h _

namespace Pt

variable (p : Pt Ideal)

/-- The five input blocks of a grid point are a tile of 2048 positions and the tile before it. -/
structure Blocks (n h : ℕ) (l : Fin 128) (Q K : ℕ → Fin 64 → EReal) (V : ℕ → EReal) : Prop where
  tile : (p.i 2).val = n
  le : n < 4
  lane : l.val / 64 = h
  q : ∀ ρ, ρ < 2048 → ∀ (e : Fin 64) (x : Fin 128), x.val = 64 * h + e.val → row p.x0 ρ x = Q (2048 * n + ρ) e
  k : ∀ ρ, ρ < 2048 → ∀ (e : Fin 64) (x : Fin 128), x.val = 64 * h + e.val → row p.x1 ρ x = K (2048 * n + ρ) e
  k' : 0 < n → ∀ ρ, ρ < 2048 → ∀ (e : Fin 64) (x : Fin 128), x.val = 64 * h + e.val → row p.x3 ρ x = K (2048 * (n - 1) + ρ) e
  v : ∀ ρ, ρ < 2048 → row p.x2 ρ l = V (2048 * n + ρ)
  v' : 0 < n → ∀ ρ, ρ < 2048 → row p.x4 ρ l = V (2048 * (n - 1) + ρ)

variable {p} {n h : ℕ} {l : Fin 128} {Q K : ℕ → Fin 64 → EReal} {V : ℕ → EReal}

/-- A window row that is seen is the position it stands for. -/
theorem win_eq (xc xp : Vec Ideal S1x1x2048x128 .f32) (x : Fin 128) (f : ℕ → EReal)
    (hc : ∀ ρ, ρ < 2048 → row xc ρ x = f (2048 * n + ρ)) (hp : 0 < n → ∀ ρ, ρ < 2048 → row xp ρ x = f (2048 * (n - 1) + ρ))
    (d ρ : ℕ) (hd : d = 1 ∨ d = 4 ∨ d = 16) (hρ : ρ < 2048) (j : ℕ) (hj : j < 256) (h : ok d (2048 * n + ρ) j) :
    win d (ρ % d) (ρ / d / 128) xc xp j x = f (pos d (2048 * n + ρ) j) := by
  unfold win
  unfold ok at h
  split_ifs with hb
  · rw [hp (by rcases hd with rfl | rfl | rfl <;> omega) _ (by rcases hd with rfl | rfl | rfl <;> omega)]
    congr 1
    unfold pos
    rcases hd with rfl | rfl | rfl <;> omega
  · rw [hc _ (by rcases hd with rfl | rfl | rfl <;> omega)]
    congr 1
    unfold pos
    rcases hd with rfl | rfl | rfl <;> omega

/-- The scores of a block are those of its positions. -/
theorem Blocks.scores (B : Blocks p n h l Q K V) (d ρ : ℕ) (hd : d = 1 ∨ d = 4 ∨ d = 16) (hρ : ρ < 2048) (hh : l.val / 64 < 2) :
    Attn.scores (MF p.i (ρ / d / 128)) (QF d (ρ % d) (ρ / d / 128) p.x0) (WF d (ρ % d) (ρ / d / 128) p.x1 p.x3)
      ⟨ρ / d % 128, Nat.mod_lt _ (by decide)⟩ (l.val / 64) hh = S Q K d (2048 * n + ρ) := by
  have hn := B.le
  have hlane := B.lane
  funext j
  have hj := j.isLt
  have hm := MF_apply p.i (by rw [B.tile]; exact hn) (ρ / d / 128) ⟨ρ / d % 128, Nat.mod_lt _ (by decide)⟩ j
  rw [B.tile] at hm
  have hok : (MF p.i (ρ / d / 128) (ix2 ⟨ρ / d % 128, Nat.mod_lt _ (by decide)⟩ j) = 1#1) ↔ ok d (2048 * n + ρ) j.val := by
    rw [hm]
    unfold ok
    rcases hd with rfl | rfl | rfl <;> simp only <;> omega
  unfold Attn.scores S
  by_cases hk : ok d (2048 * n + ρ) j.val
  · rw [if_pos (hok.mpr hk), if_pos hk]
    congr 1
    refine Finset.sum_congr rfl fun e _ => ?_
    have he := e.isLt
    have hx : 64 * (l.val / 64) + e.val < 128 := by omega
    have hx' : (⟨64 * (l.val / 64) + e.val, hx⟩ : Fin 128).val = 64 * h + e.val := by simp only; omega
    congr 1
    · refine (B.q (ρ % d + d * (128 * (ρ / d / 128) + ρ / d % 128)) (by rcases hd with rfl | rfl | rfl <;> omega) e
        ⟨64 * (l.val / 64) + e.val, hx⟩ hx').trans ?_
      congr 1
      rcases hd with rfl | rfl | rfl <;> omega
    · exact win_eq p.x1 p.x3 ⟨64 * (l.val / 64) + e.val, hx⟩ (fun s => K s e) (fun ρ hρ => B.k ρ hρ e _ hx')
        (fun h0 ρ hρ => B.k' h0 ρ hρ e _ hx') d ρ hd hρ j.val hj hk
  · rw [if_neg (fun h => hk (hok.mp h)), if_neg hk]

/-- The accumulator of a grid point after all its blocks is the attention of its positions. -/
theorem Blocks.acc_att (B : Blocks p n h l Q K V) (hQ : Fin' Q) (hK : Fin' K) (ρ : ℕ) (hρ : ρ < 2048) :
    p.O'' ρ l = att Q K V (2048 * n + ρ) := by
  have hh : l.val / 64 < 2 := by have := l.isLt; omega
  have hO : ∀ d, d = 1 ∨ d = 4 ∨ d = 16 → p.O d ρ l = outD Q K V d (2048 * n + ρ) := by
    intro d hd
    refine (bO_apply _ _ _ _ _ _).trans ?_
    rw [B.scores d ρ hd hρ hh]
    exact ou_S hQ hK d _ V _ fun j hk =>
      win_eq p.x2 p.x4 l V B.v B.v' d ρ hd hρ j.val j.isLt hk
  have hL : ∀ d, d = 1 ∨ d = 4 ∨ d = 16 → p.L d ρ l = lseD Q K d (2048 * n + ρ) := by
    intro d hd
    refine (bL_apply _ _ _ _ _).trans ?_
    rw [B.scores d ρ hd hρ hh, lseD]
  unfold O'' O' L' att
  rw [hO 16 (by decide), hO 4 (by decide), hO 1 (by decide), hL 16 (by decide), hL 4 (by decide), hL 1 (by decide)]

end Pt

end Cert.Attn

end
-- ==== Proof.Attn.Kernel.lean ====
/- The attention kernel's result array: at every index the attention of its batch entry and head (`final`). -/
module

public import proofs.«01_k».proof.Proof.Attn.Goal
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

theorem idx0 (t : Fin cfg0.N) : win0_0.index t = ![(grid0.coords t 0).val, (grid0.coords t 1).val, (grid0.coords t 2).val, 0] :=
  (by decide +kernel : ∀ t : Fin grid0.N, win0_0.index t = ![(grid0.coords t 0).val, (grid0.coords t 1).val, (grid0.coords t 2).val, 0]) t
theorem idx1 (t : Fin cfg0.N) : win0_1.index t = ![(grid0.coords t 0).val, (grid0.coords t 1).val, (grid0.coords t 2).val, 0] :=
  (by decide +kernel : ∀ t : Fin grid0.N, win0_1.index t = ![(grid0.coords t 0).val, (grid0.coords t 1).val, (grid0.coords t 2).val, 0]) t
theorem idx2 (t : Fin cfg0.N) : win0_2.index t = ![(grid0.coords t 0).val, (grid0.coords t 1).val, (grid0.coords t 2).val, 0] :=
  (by decide +kernel : ∀ t : Fin grid0.N, win0_2.index t = ![(grid0.coords t 0).val, (grid0.coords t 1).val, (grid0.coords t 2).val, 0]) t
theorem idx3 (t : Fin cfg0.N) : win0_3.index t = ![(grid0.coords t 0).val, (grid0.coords t 1).val, (grid0.coords t 2).val - 1, 0] :=
  (by decide +kernel : ∀ t : Fin grid0.N, win0_3.index t = ![(grid0.coords t 0).val, (grid0.coords t 1).val, (grid0.coords t 2).val - 1, 0]) t
theorem idx4 (t : Fin cfg0.N) : win0_4.index t = ![(grid0.coords t 0).val, (grid0.coords t 1).val, (grid0.coords t 2).val - 1, 0] :=
  (by decide +kernel : ∀ t : Fin grid0.N, win0_4.index t = ![(grid0.coords t 0).val, (grid0.coords t 1).val, (grid0.coords t 2).val - 1, 0]) t
theorem idx5 (t : Fin cfg0.N) : win0_5.index t = ![(grid0.coords t 0).val, (grid0.coords t 1).val, (grid0.coords t 2).val, 0] :=
  (by decide +kernel : ∀ t : Fin grid0.N, win0_5.index t = ![(grid0.coords t 0).val, (grid0.coords t 1).val, (grid0.coords t 2).val, 0]) t

/-- The grid point, its memrefs and its input blocks. -/
def pt (c : Dev nD) (t : Fin cfg0.N) : Pt Ideal where
  c := c
  i := grid0.coords t
  arg3 := ms0_0 t
  harg3 := hs0_0 t
  arg4 := ms0_1 t
  harg4 := hs0_1 t
  arg5 := ms0_2 t
  harg5 := hs0_2 t
  arg6 := ms0_3 t
  harg6 := hs0_3 t
  arg7 := ms0_4 t
  harg7 := hs0_4 t
  arg9 := scM0_0
  arg10 := scM0_1
  arg11 := scM0_2
  arg12 := scM0_3
  arg13 := scM0_4
  arg14 := scM0_5
  arg15 := scM0_6
  arg16 := scM0_7
  arg17 := scM0_8
  x0 := iblk m c 0 t
  x1 := iblk m c 1 t
  x2 := iblk m c 2 t
  x3 := iblk m c 3 t
  x4 := iblk m c 4 t

/-- The layout of the kernel's operands: heads in pairs, two to a row of 128 lanes. -/
def slab (x : FVec Ideal S2x8192x8x64 .f32) (i : S2x4x8192x128.Idx) : EReal :=
  x (ix4 (i 0) (i 2) ⟨(i 1).val * 2 + (i 3).val / 64, by have h1 : (i 1).val < 4 := (i 1).isLt; have h3 : (i 3).val < 128 := (i 3).isLt; omega⟩
    ⟨(i 3).val % 64, Nat.mod_lt _ (by decide)⟩)

theorem V_q (c : Dev nD) (i) : V m c main_v1 i = slab (m ((c : Thread nD τ).loc main_arg0)) i := by
  entry_read
  pointwise
  rfl
theorem V_k (c : Dev nD) (i) : V m c main_v3 i = slab (m ((c : Thread nD τ).loc main_arg1)) i := by
  entry_read
  pointwise
  rfl
theorem V_v (c : Dev nD) (i) : V m c main_v5 i = slab (m ((c : Thread nD τ).loc main_arg2)) i := by
  entry_read
  pointwise
  rfl

/-- An entry of the slab is the entry of the head it belongs to. -/
theorem slab_feat (x : FVec Ideal S2x8192x8x64 .f32) (i : S2x4x8192x128.Idx) (b : Fin 2) (hd : Fin 8) (s : ℕ) (e : Fin 64)
    (h0 : (i 0).val = b.val) (h1 : 2 * (i 1).val + (i 3).val / 64 = hd.val) (h2 : (i 2).val = s) (h3 : (i 3).val % 64 = e.val) :
    slab x i = feat x b hd s e := by
  have h2' : (i 2).val < 8192 := (i 2).isLt
  unfold slab feat
  congr 1
  funext a
  refine Fin.ext ?_
  fin_cases a
  · exact h0
  · show (i 2).val = s % 8192
    omega
  · show (i 1).val * 2 + (i 3).val / 64 = hd.val
    omega
  · exact h3

theorem outs_apply (c : Dev nD) (t : Fin cfg0.N) (y : S1x1x2048x128.Idx) :
    outsAt0 m c t y = View.canon (Val := Elt Ideal) ((pt m c t).hs0 32) (ix2 (y 2) (y 3)) := by
  have hz : (![0, 0, 0, 0] : Fin 4 → ℕ) = fun _ => 0 := by decide
  unfold outsAt0 out0_A_5
  rw [View.read_writes_junk_eq_canon]
  refine (congrFun (View.canon_unit_zero (S := S1x1x2048x128) (off := ![0, 0, 0, 0]) hz _ _) y).trans ?_
  pointwise [k0_pay3]
  unfold kernelRun0_A.sl.v3681
  refine (congrFun (View.readCov_eq_canon' (Val := Elt Ideal) _ _ _) _).trans ?_
  refine congrArg (View.canon (Val := Elt Ideal) ((pt m c t).hs0 32)) ?_
  funext a
  refine Fin.ext ?_
  fin_cases a
  · show 0 + 1 * (y 2).val = (y 2).val
    omega
  · show 0 + 1 * (y 3).val = (y 3).val
    omega

/-- An index of the operands' arrays: the grid point's batch entry and head pair, row `ρ` of tile `n`, lane `x`. -/
def At (t : Fin cfg0.N) (i : S2x4x8192x128.Idx) (n ρ : ℕ) (x : Fin 128) : Prop :=
  (i 0).val = (grid0.coords t 0).val ∧ (i 1).val = (grid0.coords t 1).val ∧ (i 2).val = 2048 * n + ρ ∧ (i 3).val = x.val

theorem blk0 (c : Dev nD) (t : Fin cfg0.N) (ρ : ℕ) (hρ : ρ < 2048) (x : Fin 128) (i : S2x4x8192x128.Idx)
    (hi : At t i ((grid0.coords t 2).val) ρ x) : row (iblk m c 0 t) ρ x = slab (m ((c : Thread nD τ).loc main_arg0)) i := by
  obtain ⟨h0, h1, h2, h3⟩ := hi
  unfold row
  blk_simp [iblk]
  rw [V_q]
  congr 1
  blk_ext [idx0 t]

theorem blk1 (c : Dev nD) (t : Fin cfg0.N) (ρ : ℕ) (hρ : ρ < 2048) (x : Fin 128) (i : S2x4x8192x128.Idx)
    (hi : At t i ((grid0.coords t 2).val) ρ x) : row (iblk m c 1 t) ρ x = slab (m ((c : Thread nD τ).loc main_arg1)) i := by
  obtain ⟨h0, h1, h2, h3⟩ := hi
  unfold row
  blk_simp [iblk]
  rw [V_k]
  congr 1
  blk_ext [idx1 t]

theorem blk2 (c : Dev nD) (t : Fin cfg0.N) (ρ : ℕ) (hρ : ρ < 2048) (x : Fin 128) (i : S2x4x8192x128.Idx)
    (hi : At t i ((grid0.coords t 2).val) ρ x) : row (iblk m c 2 t) ρ x = slab (m ((c : Thread nD τ).loc main_arg2)) i := by
  obtain ⟨h0, h1, h2, h3⟩ := hi
  unfold row
  blk_simp [iblk]
  rw [V_v]
  congr 1
  blk_ext [idx2 t]

theorem blk3 (c : Dev nD) (t : Fin cfg0.N) (ρ : ℕ) (hρ : ρ < 2048) (x : Fin 128) (i : S2x4x8192x128.Idx)
    (hi : At t i ((grid0.coords t 2).val - 1) ρ x) : row (iblk m c 3 t) ρ x = slab (m ((c : Thread nD τ).loc main_arg1)) i := by
  obtain ⟨h0, h1, h2, h3⟩ := hi
  unfold row
  blk_simp [iblk]
  rw [V_k]
  congr 1
  blk_ext [idx3 t]

theorem blk4 (c : Dev nD) (t : Fin cfg0.N) (ρ : ℕ) (hρ : ρ < 2048) (x : Fin 128) (i : S2x4x8192x128.Idx)
    (hi : At t i ((grid0.coords t 2).val - 1) ρ x) : row (iblk m c 4 t) ρ x = slab (m ((c : Thread nD τ).loc main_arg2)) i := by
  obtain ⟨h0, h1, h2, h3⟩ := hi
  unfold row
  blk_simp [iblk]
  rw [V_v]
  congr 1
  blk_ext [idx4 t]

/-- The index at those coordinates. -/
theorem At.exists (t : Fin cfg0.N) (n ρ : ℕ) (hn : n < 4) (hρ : ρ < 2048) (x : Fin 128) : ∃ i, At t i n ρ x := by
  have h0 : (grid0.coords t 0).val < 2 := (grid0.coords t 0).isLt
  have h1 : (grid0.coords t 1).val < 4 := (grid0.coords t 1).isLt
  exact ⟨ix4 (⟨_, h0⟩ : Fin 2) (⟨_, h1⟩ : Fin 4) (⟨2048 * n + ρ, by omega⟩ : Fin 8192) x, rfl, rfl, rfl, rfl⟩

/-- An entry of a slab at those coordinates is the entry of the head it belongs to. -/
theorem At.slab {t : Fin cfg0.N} {i : S2x4x8192x128.Idx} {n ρ : ℕ} {x : Fin 128} (hi : At t i n ρ x) (z : FVec Ideal S2x8192x8x64 .f32)
    (b : Fin 2) (hd : Fin 8) (e : Fin 64) (hb : b.val = (grid0.coords t 0).val) (h : ℕ) (he : x.val = 64 * h + e.val)
    (hh : hd.val = 2 * (grid0.coords t 1).val + h) : Attn.slab z i = feat z b hd (2048 * n + ρ) e := by
  obtain ⟨h0, h1, h2, h3⟩ := hi
  have he' := e.isLt
  exact slab_feat z i b hd _ e (by omega) (by omega) h2 (by omega)

/-- The grid point's blocks are the tiles of its batch entry and heads. -/
theorem blocks (c : Dev nD) (t : Fin cfg0.N) (b : Fin 2) (hd : Fin 8) (l : Fin 128) (hb : b.val = (grid0.coords t 0).val)
    (hh : hd.val = 2 * (grid0.coords t 1).val + l.val / 64) :
    Pt.Blocks (pt m c t) (grid0.coords t 2).val (l.val / 64) l (feat (m ((c : Thread nD τ).loc main_arg0)) b hd)
      (feat (m ((c : Thread nD τ).loc main_arg1)) b hd)
      (fun n => feat (m ((c : Thread nD τ).loc main_arg2)) b hd n ⟨l.val % 64, Nat.mod_lt _ (by decide)⟩) := by
  have h2 : (grid0.coords t 2).val < 4 := (grid0.coords t 2).isLt
  have hl : l.val = 64 * (l.val / 64) + l.val % 64 := by omega
  refine ⟨rfl, h2, rfl, fun ρ hρ e x hx => ?_, fun ρ hρ e x hx => ?_, fun h0 ρ hρ e x hx => ?_, fun ρ hρ => ?_, fun h0 ρ hρ => ?_⟩
  · obtain ⟨i, hi⟩ := At.exists t _ ρ h2 hρ x
    exact (blk0 m c t ρ hρ x i hi).trans (hi.slab _ b hd e hb _ hx hh)
  · obtain ⟨i, hi⟩ := At.exists t _ ρ h2 hρ x
    exact (blk1 m c t ρ hρ x i hi).trans (hi.slab _ b hd e hb _ hx hh)
  · obtain ⟨i, hi⟩ := At.exists t ((grid0.coords t 2).val - 1) ρ (by omega) hρ x
    exact (blk3 m c t ρ hρ x i hi).trans (hi.slab _ b hd e hb _ hx hh)
  · obtain ⟨i, hi⟩ := At.exists t _ ρ h2 hρ l
    exact (blk2 m c t ρ hρ l i hi).trans (hi.slab _ b hd ⟨l.val % 64, Nat.mod_lt _ (by decide)⟩ hb _ hl hh)
  · obtain ⟨i, hi⟩ := At.exists t ((grid0.coords t 2).val - 1) ρ (by omega) hρ l
    exact (blk4 m c t ρ hρ l i hi).trans (hi.slab _ b hd ⟨l.val % 64, Nat.mod_lt _ (by decide)⟩ hb _ hl hh)

/-- The kernel's result array. -/
theorem final (c : Dev nD) (hq : Finite (m ((c : Thread nD τ).loc main_arg0))) (hk : Finite (m ((c : Thread nD τ).loc main_arg1))) :
    (dats m 0 c).arrAt 5 cfg0.N = fun i => AttOut (m ((c : Thread nD τ).loc main_arg0)) (m ((c : Thread nD τ).loc main_arg1))
      (m ((c : Thread nD τ).loc main_arg2)) (i 0) (i 1) (i 2) (i 3) := by
  refine (dats m 0 c).arrAt_eq_of_covers 5 _ (by decide +kernel) fun t hf y => ?_
  blk_simp
  rw [after0_5]
  have key : ∀ (b : Fin 2) (hp : Fin 4) (s : Fin 8192) (l : Fin 128), b.val = (grid0.coords t 0).val → hp.val = (grid0.coords t 1).val →
      s.val = 2048 * (grid0.coords t 2).val + (y 2).val → l.val = (y 3).val →
      outsAt0 m c t y = AttOut (m ((c : Thread nD τ).loc main_arg0)) (m ((c : Thread nD τ).loc main_arg1))
        (m ((c : Thread nD τ).loc main_arg2)) b hp s l := by
    intro b hp s l hb hhp hs hl
    have hy2 : (y 2).val < 2048 := (y 2).isLt
    have hl' : l = y 3 := Fin.ext hl
    refine (outs_apply m c t y).trans (((pt m c t).acc_final _).trans ?_)
    refine ((blocks m c t b ⟨2 * hp.val + l.val / 64, by have := l.isLt; have := hp.isLt; omega⟩ l hb (by simp only; omega)).acc_att
      (hq.feat _ _) (hk.feat _ _) (y 2).val hy2 |>.trans ?_ |> fun h => Eq.trans (by rw [hl']; rfl) h)
    unfold AttOut
    rw [hs]
  refine key _ _ _ _ ?_ ?_ ?_ ?_ <;> blk_simp [idx5 t] <;> omega

end Cert.Attn

end
-- ==== Proof.Attn.RefRow.lean ====
/- The reference's result array: at every index the attention of its batch entry and head (`ref_final`). The three
   dilations have the same shape, so what is said of one row of one of them is said once (`score_eq`, `pat_lse`, `pat_out`). -/
module

public import proofs.«01_k».proof.Proof.Attn.Goal
public import proofs.«01_k».proof.Proof.Gen.ReferenceIdeal.Run
public import Idealize.ShloMosaic.Lib.Pointwise

@[expose] public section

set_option maxRecDepth 16384

noncomputable section

namespace Cert.Attn

open Cert.ReferenceIdeal Cert.ReferenceIdeal.Gen Cert.ReferenceIdeal.Value Idealize.ShloMosaic Idealize.ShloMosaic.TcCoe Idealize.ShloMosaic.StableHlo

/-! ## One row of one dilation -/

/-- The reference's mask and score at window column `j` of row `i` of block `n`. -/
theorem score_eq (Q K : ℕ → Fin 64 → EReal) (d s n i : ℕ) (hn : n = s / d / 128) (hi : i = s / d % 128) (hs : s < 8192)
    (j : Fin 256) (Qs kw : Fin 64 → EReal) (hQ : ∀ x, Qs x = Q s x) (hk : ok d s j.val → ∀ x, kw x = K (pos d s j.val) x) :
    Scalar.select
      (IntOp.andi
        (IntOp.andi (IntOp.cmpi .sge (IntOp.subi (IntOp.addi 128#32 (BitVec.ofNat 32 i)) (BitVec.ofNat 32 j.val)) 0#32)
          (IntOp.cmpi .sle (IntOp.subi (IntOp.addi 128#32 (BitVec.ofNat 32 i)) (BitVec.ofNat 32 j.val)) 128#32))
        (IntOp.cmpi .sge (IntOp.subi (IntOp.addi (IntOp.muli (BitVec.ofNat 32 n) 128#32) (BitVec.ofNat 32 j.val)) 128#32) 0#32))
      ((∑ x, Qs x * kw x) * Ideal.ofBits .f32 1040187392#32) (Ideal.ofBits .f32 4286578688#32) = S Q K d s j := by
  have hj := j.isLt
  have hn' : n < 64 := by
    have : s / d ≤ s := Nat.div_le_self _ _
    omega
  have e1 := toInt_nat i (by omega)
  have e2 := toInt_nat j.val (by omega)
  have e3 : (128#32).toInt = 128 := by decide
  have e4 : (0#32).toInt = 0 := by decide
  have e5 := toInt_addi 128#32 (BitVec.ofNat 32 i) (by omega) (by omega)
  have e6 := toInt_subi (IntOp.addi 128#32 (BitVec.ofNat 32 i)) (BitVec.ofNat 32 j.val) (by omega) (by omega)
  have e7 : (IntOp.muli (BitVec.ofNat 32 n) 128#32).toInt = n * 128 := by
    refine (congrArg BitVec.toInt (muli_nat n 128)).trans ((toInt_nat _ (by omega)).trans (by push_cast; rfl))
  have e8 := toInt_addi (IntOp.muli (BitVec.ofNat 32 n) 128#32) (BitVec.ofNat 32 j.val) (by omega) (by omega)
  have e9 := toInt_subi (IntOp.addi (IntOp.muli (BitVec.ofNat 32 n) 128#32) (BitVec.ofNat 32 j.val)) 128#32 (by omega) (by omega)
  have hok : (IntOp.andi
        (IntOp.andi (IntOp.cmpi .sge (IntOp.subi (IntOp.addi 128#32 (BitVec.ofNat 32 i)) (BitVec.ofNat 32 j.val)) 0#32)
          (IntOp.cmpi .sle (IntOp.subi (IntOp.addi 128#32 (BitVec.ofNat 32 i)) (BitVec.ofNat 32 j.val)) 128#32))
        (IntOp.cmpi .sge (IntOp.subi (IntOp.addi (IntOp.muli (BitVec.ofNat 32 n) 128#32) (BitVec.ofNat 32 j.val)) 128#32) 0#32)) = 1#1
      ↔ ok d s j.val := by
    rw [andi_iff, andi_iff, sge_iff, sle_iff, sge_iff, e9, e8, e7, e6, e5, e1, e2, e3, e4]
    unfold ok
    omega
  unfold S
  by_cases h : ok d s j.val
  · rw [if_pos h]
    refine (if_pos (hok.mpr h)).trans ?_
    rw [ofBits_eighth]
    congr 1
    exact Finset.sum_congr rfl fun x _ => by rw [hQ, hk h]
  · rw [if_neg h]
    exact (if_neg (fun h' => h (hok.mp h'))).trans ofBits_bot

/-- The maximum over the last axis, as the program folds it, is the maximum of the row. -/
theorem rowMax {A B : ℕ} (x : (⟨4, ![A, B, 128, 256]⟩ : Shape).Idx → EReal)
    (h' : (⟨4, ![A, B, 128, 256]⟩ : Shape).ReducesTo [3] ⟨3, ![A, B, 128]⟩) (h : (⟨4, ![A, B, 128, 256]⟩ : Shape).Reduces [3] ⟨3, ![A, B, 128]⟩)
    (g : Fin A) (n : Fin B) (i : Fin 128) :
    Finset.fold max (Ideal.ofBits .f32 4286578688#32) x (Finset.univ.filter fun z => h'.drop z = ix3 g n i)
      = mx fun j => x (ix4 g n i j) := by
  classical
  rw [ofBits_bot, h'.drop_eq_drop h]
  refine (h.fold_filter_drop_single max ⊥ x (ix3 g n i)).trans ?_
  unfold mx
  refine congrArg (fun f => Finset.fold max ⊥ f Finset.univ) (funext fun j => congrArg x (funext fun c => Fin.ext ?_))
  rw [h.lift_val]
  fin_cases c <;> rfl

/-- The log denominator of a row. -/
theorem pat_lse {Q K : ℕ → Fin 64 → EReal} {d s : ℕ} {sc : Fin 256 → EReal} {m l : EReal} (hs : ∀ j, sc j = S Q K d s j)
    (hm : m = mx sc) (hl : l = ∑ j, Ideal.exp (sc j - m)) : m + Ideal.log l = lseD Q K d s := by
  have : sc = S Q K d s := funext hs
  subst this hm hl
  rfl

/-- The output of a row, its window in two halves. -/
theorem pat_out {Q K : ℕ → Fin 64 → EReal} (hQ : Fin' Q) (hK : Fin' K) {V : ℕ → EReal} {d s : ℕ} {sc e : Fin 256 → EReal} {m l : EReal}
    (hs : ∀ j, sc j = S Q K d s j) (hm : m = mx sc) (hl : l = ∑ j, Ideal.exp (sc j - m)) (he : ∀ j, e j = Ideal.exp (sc j - m))
    (V1 V2 : Fin 128 → EReal) (h1 : ∀ x : Fin 128, ok d s x.val → V1 x = V (pos d s x.val))
    (h2 : ∀ x : Fin 128, ok d s (128 + x.val) → V2 x = V (pos d s (128 + x.val))) :
    Ideal.div ((∑ x : Fin 128, e ⟨x.val, by have := x.isLt; omega⟩ * V1 x) + ∑ x : Fin 128, e ⟨128 + x.val, by have := x.isLt; omega⟩ * V2 x) l
      = outD Q K V d s := by
  have hsc : sc = S Q K d s := funext hs
  have hee : e = fun j => Ideal.exp (sc j - m) := funext he
  subst hsc hm hl hee
  rw [← ou_S hQ hK d s V (fun j => if hj : j.val < 128 then V1 ⟨j.val, hj⟩ else V2 ⟨j.val - 128, by have := j.isLt; omega⟩) fun j hj => ?_]
  · unfold ou
    congr 1
    refine Eq.symm ((Fin.sum_univ_add (a := 128) (b := 128) _).trans ?_)
    congr 1
  · have hj' := j.isLt
    by_cases h : j.val < 128
    · rw [dif_pos h]; exact h1 _ hj
    · rw [dif_neg h]
      have e : 128 + (j.val - 128) = j.val := by omega
      refine (h2 ⟨j.val - 128, by omega⟩ (by simp only [e]; exact hj)).trans (by simp only [e])

/-- An entry of an array of heads is the entry of its batch entry, head and position. -/
theorem feat_of (x : FVec Ideal S2x8192x8x64 .f32) (b : Fin 2) (h : Fin 8) (s : ℕ) (e : Fin 64) (b' : Fin 2) (s' : Fin 8192) (h' : Fin 8)
    (hb : b'.val = b.val) (hs : s'.val = s) (hh : h'.val = h.val) : x (ix4 b' s' h' e) = feat x b h s e := by
  have e1 : b' = b := Fin.ext hb
  have e2 : h' = h := Fin.ext hh
  have e3 : s' = ⟨s % 8192, Nat.mod_lt _ (by decide)⟩ := Fin.ext (by have := s'.isLt; simp only; omega)
  rw [e1, e2, e3]
  rfl

variable (V0 : Valuation τ sig (Elt Ideal)) (b : Fin 2) (h : Fin 8) (s : Fin 8192)

/-- Queries, keys and values of the launch. -/
abbrev aq : FVec Ideal S2x8192x8x64 .f32 := V0 (Proc.devRef .tc main_arg0)
abbrev ak : FVec Ideal S2x8192x8x64 .f32 := V0 (Proc.devRef .tc main_arg1)
abbrev av : FVec Ideal S2x8192x8x64 .f32 := V0 (Proc.devRef .tc main_arg2)

/-! ## Dilation 1 -/

/-- The row of position `s`: its batch entry, residue and head, its block, its place in the block. -/
def g1 (_ : Fin 8192) : Fin 16 := ⟨b.val * 8 + h.val, by have := b.isLt; have := h.isLt; omega⟩
def n1 : Fin 64 := ⟨s.val / 128, by have := s.isLt; omega⟩
def i1 : Fin 128 := ⟨s.val % 128, Nat.mod_lt _ (by decide)⟩

/-- Its scores, their maximum, their exponentials and the sum of these, as the reference has them. -/
abbrev sc1 : Fin 256 → EReal := fun j => res_main_v40 V0 (ix4 (g1 b h s) (n1 s) (i1 s) j)
abbrev mx1 : EReal := res_main_v42 V0 (ix4 (g1 b h s) (n1 s) (i1 s) (0 : Fin 1))
abbrev ex1 : Fin 256 → EReal := fun j => res_main_v45 V0 (ix4 (g1 b h s) (n1 s) (i1 s) j)
abbrev sm1 : EReal := res_main_v47 V0 (ix4 (g1 b h s) (n1 s) (i1 s) (0 : Fin 1))

/-- Its scores. -/
theorem s1 (j : Fin 256) : sc1 V0 b h s j = S (feat (aq V0) b h) (feat (ak V0) b h) 1 s.val j := by
  have hb := b.isLt
  have hh := h.isLt
  have hs := s.isLt
  have hj := j.isLt
  dsimp only [sc1]
  pointwise [res_main_v40, res_main_v22, res_main_v19, res_main_v5]
  refine score_eq _ _ 1 s.val (s.val / 128) (s.val % 128) (by rw [Nat.div_one]) (by rw [Nat.div_one]) hs j _ _ (fun x => ?_) fun hk x => ?_
  · refine feat_of (aq V0) b h s.val x _ _ _ ?_ ?_ ?_ <;> simp only [g1, n1, i1] <;> omega
  · unfold ok at hk
    split_ifs with h1 h2
    · simp only [n1] at h2; omega
    all_goals
      simp only [n1] at *
      refine feat_of (ak V0) b h _ x _ _ _ ?_ ?_ ?_ <;> simp only [g1, i1, pos] <;> omega

/-- Its maximum, its exponentials and their sum. -/
theorem m1 : mx1 V0 b h s = mx (sc1 V0 b h s) := by
  dsimp only [sc1, mx1]
  pointwise [res_main_v42]
  exact rowMax _ _ (by decide) _ _ _

theorem e1 (j : Fin 256) : ex1 V0 b h s j
    = Ideal.exp (sc1 V0 b h s j - mx1 V0 b h s) := by
  dsimp only [sc1, mx1, ex1]
  pointwise [res_main_v45]

theorem l1 : sm1 V0 b h s
    = ∑ j, Ideal.exp (sc1 V0 b h s j - mx1 V0 b h s) := by
  refine Eq.trans (b := ∑ j, ex1 V0 b h s j) ?_ (Finset.sum_congr rfl fun j _ => e1 V0 b h s j)
  dsimp only [sm1, ex1]
  pointwise [res_main_v47]

/-- The value rows of its window: the previous block, then its own. -/
theorem va1 (x : Fin 128) (e : Fin 64) (hx : ok 1 s.val x.val) :
    (if hn : s.val / 128 < 1 then (0 : EReal) else res_main_v12 V0 (ix4 (g1 b h s) ⟨s.val / 128 - 1, by have := s.isLt; omega⟩ x e))
      = feat (av V0) b h (pos 1 s.val x.val) e := by
  have hb := b.isLt
  have hh := h.isLt
  have hs := s.isLt
  have hj := x.isLt
  unfold ok at hx
  rw [dif_neg (by omega)]
  pointwise [res_main_v12]
  refine feat_of (av V0) b h _ e _ _ _ ?_ ?_ ?_ <;> simp only [g1, pos] <;> omega

theorem vb1 (x : Fin 128) (e : Fin 64) (hx : ok 1 s.val (128 + x.val)) :
    res_main_v12 V0 (ix4 (g1 b h s) (n1 s) x e) = feat (av V0) b h (pos 1 s.val (128 + x.val)) e := by
  have hb := b.isLt
  have hh := h.isLt
  have hs := s.isLt
  have hj := x.isLt
  unfold ok at hx
  pointwise [res_main_v12]
  refine feat_of (av V0) b h _ e _ _ _ ?_ ?_ ?_ <;> simp only [g1, n1, pos] <;> omega

/-! ## Dilation 4 -/

/-- The row of position `s`: its batch entry, residue and head, its block, its place in the block. -/
def g4 : Fin 64 := ⟨b.val * 32 + s.val % 4 * 8 + h.val, by have := b.isLt; have := h.isLt; omega⟩
def n4 : Fin 16 := ⟨s.val / 4 / 128, by have := s.isLt; omega⟩
def i4 : Fin 128 := ⟨s.val / 4 % 128, Nat.mod_lt _ (by decide)⟩

/-- Its scores, their maximum, their exponentials and the sum of these, as the reference has them. -/
abbrev sc4 : Fin 256 → EReal := fun j => res_main_v100 V0 (ix4 (g4 b h s) (n4 s) (i4 s) j)
abbrev mx4 : EReal := res_main_v102 V0 (ix4 (g4 b h s) (n4 s) (i4 s) (0 : Fin 1))
abbrev ex4 : Fin 256 → EReal := fun j => res_main_v105 V0 (ix4 (g4 b h s) (n4 s) (i4 s) j)
abbrev sm4 : EReal := res_main_v107 V0 (ix4 (g4 b h s) (n4 s) (i4 s) (0 : Fin 1))

/-- Its scores. -/
theorem s4 (j : Fin 256) : sc4 V0 b h s j = S (feat (aq V0) b h) (feat (ak V0) b h) 4 s.val j := by
  have hb := b.isLt
  have hh := h.isLt
  have hs := s.isLt
  have hj := j.isLt
  dsimp only [sc4]
  pointwise [res_main_v100, res_main_v82, res_main_v79, res_main_v65]
  refine score_eq _ _ 4 s.val _ _ (rfl) (rfl) hs j _ _ (fun x => ?_) fun hk x => ?_
  · refine feat_of (aq V0) b h s.val x _ _ _ ?_ ?_ ?_ <;> simp only [g4, n4, i4] <;> omega
  · unfold ok at hk
    split_ifs with h1 h2
    · simp only [n4] at h2; omega
    all_goals
      simp only [n4] at *
      refine feat_of (ak V0) b h _ x _ _ _ ?_ ?_ ?_ <;> simp only [g4, i4, pos] <;> omega

/-- Its maximum, its exponentials and their sum. -/
theorem m4 : mx4 V0 b h s = mx (sc4 V0 b h s) := by
  dsimp only [sc4, mx4]
  pointwise [res_main_v102]
  exact rowMax _ _ (by decide) _ _ _

theorem e4 (j : Fin 256) : ex4 V0 b h s j
    = Ideal.exp (sc4 V0 b h s j - mx4 V0 b h s) := by
  dsimp only [sc4, mx4, ex4]
  pointwise [res_main_v105]

theorem l4 : sm4 V0 b h s
    = ∑ j, Ideal.exp (sc4 V0 b h s j - mx4 V0 b h s) := by
  refine Eq.trans (b := ∑ j, ex4 V0 b h s j) ?_ (Finset.sum_congr rfl fun j _ => e4 V0 b h s j)
  dsimp only [sm4, ex4]
  pointwise [res_main_v107]

/-- The value rows of its window: the previous block, then its own. -/
theorem va4 (x : Fin 128) (e : Fin 64) (hx : ok 4 s.val x.val) :
    (if hn : s.val / 4 / 128 < 1 then (0 : EReal) else res_main_v72 V0 (ix4 (g4 b h s) ⟨s.val / 4 / 128 - 1, by have := s.isLt; omega⟩ x e))
      = feat (av V0) b h (pos 4 s.val x.val) e := by
  have hb := b.isLt
  have hh := h.isLt
  have hs := s.isLt
  have hj := x.isLt
  unfold ok at hx
  rw [dif_neg (by omega)]
  pointwise [res_main_v72]
  refine feat_of (av V0) b h _ e _ _ _ ?_ ?_ ?_ <;> simp only [g4, pos] <;> omega

theorem vb4 (x : Fin 128) (e : Fin 64) (hx : ok 4 s.val (128 + x.val)) :
    res_main_v72 V0 (ix4 (g4 b h s) (n4 s) x e) = feat (av V0) b h (pos 4 s.val (128 + x.val)) e := by
  have hb := b.isLt
  have hh := h.isLt
  have hs := s.isLt
  have hj := x.isLt
  unfold ok at hx
  pointwise [res_main_v72]
  refine feat_of (av V0) b h _ e _ _ _ ?_ ?_ ?_ <;> simp only [g4, n4, pos] <;> omega

/-! ## Dilation 16 -/

/-- The row of position `s`: its batch entry, residue and head, its block, its place in the block. -/
def g16 : Fin 256 := ⟨b.val * 128 + s.val % 16 * 8 + h.val, by have := b.isLt; have := h.isLt; omega⟩
def n16 : Fin 4 := ⟨s.val / 16 / 128, by have := s.isLt; omega⟩
def i16 : Fin 128 := ⟨s.val / 16 % 128, Nat.mod_lt _ (by decide)⟩

/-- Its scores, their maximum, their exponentials and the sum of these, as the reference has them. -/
abbrev sc16 : Fin 256 → EReal := fun j => res_main_v160 V0 (ix4 (g16 b h s) (n16 s) (i16 s) j)
abbrev mx16 : EReal := res_main_v162 V0 (ix4 (g16 b h s) (n16 s) (i16 s) (0 : Fin 1))
abbrev ex16 : Fin 256 → EReal := fun j => res_main_v165 V0 (ix4 (g16 b h s) (n16 s) (i16 s) j)
abbrev sm16 : EReal := res_main_v167 V0 (ix4 (g16 b h s) (n16 s) (i16 s) (0 : Fin 1))

/-- Its scores. -/
theorem s16 (j : Fin 256) : sc16 V0 b h s j = S (feat (aq V0) b h) (feat (ak V0) b h) 16 s.val j := by
  have hb := b.isLt
  have hh := h.isLt
  have hs := s.isLt
  have hj := j.isLt
  dsimp only [sc16]
  pointwise [res_main_v160, res_main_v142, res_main_v139, res_main_v125]
  refine score_eq _ _ 16 s.val _ _ (rfl) (rfl) hs j _ _ (fun x => ?_) fun hk x => ?_
  · refine feat_of (aq V0) b h s.val x _ _ _ ?_ ?_ ?_ <;> simp only [g16, n16, i16] <;> omega
  · unfold ok at hk
    split_ifs with h1 h2
    · simp only [n16] at h2; omega
    all_goals
      simp only [n16] at *
      refine feat_of (ak V0) b h _ x _ _ _ ?_ ?_ ?_ <;> simp only [g16, i16, pos] <;> omega

/-- Its maximum, its exponentials and their sum. -/
theorem m16 : mx16 V0 b h s = mx (sc16 V0 b h s) := by
  dsimp only [sc16, mx16]
  pointwise [res_main_v162]
  exact rowMax _ _ (by decide) _ _ _

theorem e16 (j : Fin 256) : ex16 V0 b h s j
    = Ideal.exp (sc16 V0 b h s j - mx16 V0 b h s) := by
  dsimp only [sc16, mx16, ex16]
  pointwise [res_main_v165]

theorem l16 : sm16 V0 b h s
    = ∑ j, Ideal.exp (sc16 V0 b h s j - mx16 V0 b h s) := by
  refine Eq.trans (b := ∑ j, ex16 V0 b h s j) ?_ (Finset.sum_congr rfl fun j _ => e16 V0 b h s j)
  dsimp only [sm16, ex16]
  pointwise [res_main_v167]

/-- The value rows of its window: the previous block, then its own. -/
theorem va16 (x : Fin 128) (e : Fin 64) (hx : ok 16 s.val x.val) :
    (if hn : s.val / 16 / 128 < 1 then (0 : EReal) else res_main_v132 V0 (ix4 (g16 b h s) ⟨s.val / 16 / 128 - 1, by have := s.isLt; omega⟩ x e))
      = feat (av V0) b h (pos 16 s.val x.val) e := by
  have hb := b.isLt
  have hh := h.isLt
  have hs := s.isLt
  have hj := x.isLt
  unfold ok at hx
  rw [dif_neg (by omega)]
  pointwise [res_main_v132]
  refine feat_of (av V0) b h _ e _ _ _ ?_ ?_ ?_ <;> simp only [g16, pos] <;> omega

theorem vb16 (x : Fin 128) (e : Fin 64) (hx : ok 16 s.val (128 + x.val)) :
    res_main_v132 V0 (ix4 (g16 b h s) (n16 s) x e) = feat (av V0) b h (pos 16 s.val (128 + x.val)) e := by
  have hb := b.isLt
  have hh := h.isLt
  have hs := s.isLt
  have hj := x.isLt
  unfold ok at hx
  pointwise [res_main_v132]
  refine feat_of (av V0) b h _ e _ _ _ ?_ ?_ ?_ <;> simp only [g16, n16, pos] <;> omega

end Cert.Attn

end
-- ==== Proof.Attn.RefShape.lean ====
/- What the reference does with arrays of rows: how a row of one dilation is laid out among the positions, how a row's
   exponentials meet the values of its window, how the three dilations are stacked and summed. Every array is a variable. -/
module

public import proofs.«01_k».proof.Proof.Attn.RefRow
public import Idealize.ShloMosaic.Lib.Pointwise

@[expose] public section

set_option maxRecDepth 16384

noncomputable section

namespace Cert.Attn

open Cert.ReferenceIdeal Cert.ReferenceIdeal.Gen Cert.ReferenceIdeal.Value Idealize.ShloMosaic Idealize.ShloMosaic.TcCoe Idealize.ShloMosaic.StableHlo

variable (b : Fin 2) (h : Fin 8) (s : Fin 8192)

/-- A number per row of dilation 1, by position. -/
theorem rows1 (x : FVec Ideal S16x64x128x1 .f32) : (shapeCast S2x8192x8 (shapeCast S2x8192x8x1 (transpose S2x8192x1x8x1 [0, 3, 1, 2, 4] (shapeCast (S2x1x8x8192x1) x shapeCasts_S16x64x128x1_S2x1x8x8192x1) transposes_S2x1x8x8192x1_S2x8192x1x8x1_0_3_1_2_4) shapeCasts_S2x8192x1x8x1_S2x8192x8x1) shapeCasts_S2x8192x8x1_S2x8192x8) (ix3 b s h) = x (ix4 (g1 b h s) (n1 s) (i1 s) (0 : Fin 1)) := by
  pointwise
  rfl

/-- A vector per row of dilation 1, by position. -/
theorem vecs1 (x : FVec Ideal S16x64x128x64 .f32) (e : Fin 64) : (shapeCast S2x8192x8x64 (transpose S2x8192x1x8x64 [0, 3, 1, 2, 4] (shapeCast (S2x1x8x8192x64) x shapeCasts_S16x64x128x64_S2x1x8x8192x64) transposes_S2x1x8x8192x64_S2x8192x1x8x64_0_3_1_2_4) shapeCasts_S2x8192x1x8x64_S2x8192x8x64) (ix4 b s h e) = x (ix4 (g1 b h s) (n1 s) (i1 s) e) := by
  pointwise
  rfl

/-- The rows of dilation 1: exponentials against the values of the window, over the sum. -/
theorem outs1 (x : FVec Ideal S16x64x128x256 .f32) (v : FVec Ideal S16x64x128x64 .f32) (l : FVec Ideal S16x64x128x1 .f32) (e : Fin 64) :
    ((Host.divf (Host.dotGeneral dot_S16x64x128x256_S16x64x256x64_S16x64x128x64_3_2_2_3_01_01 none (x) (concatenate S16x64x256x64 2 [⟨S16x64x128x64, (concatenate S16x64x128x64 1 [⟨S16x1x128x64, (broadcastInDim S16x1x128x64 ![] bcast_S_S16x1x128x64 (constant S_ .f32 0x00000000#32))⟩, ⟨S16x63x128x64, (extractStridedSlice S16x63x128x64 ![0, 0, 0, 0] (v) slices_S16x64x128x64_S16x63x128x64_0_0_0_0)⟩] concatenates_S16x1x128x64_S16x63x128x64_S16x64x128x64_d1)⟩, ⟨S16x64x128x64, (v)⟩] concatenates_S16x64x128x64_S16x64x128x64_S16x64x256x64_d2)) (broadcastInDim S16x64x128x64 ![0, 1, 2, 3] bcast_S16x64x128x1_S16x64x128x64_0_1_2_3 (l))) : FVec Ideal S16x64x128x64 .f32) (ix4 (g1 b h s) (n1 s) (i1 s) e)
    = Ideal.div ((∑ k : Fin 128, x (ix4 (g1 b h s) (n1 s) (i1 s) (⟨k.val, by have := k.isLt; omega⟩ : Fin 256))
          * (if hn : s.val / 128 < 1 then (0 : EReal) else v (ix4 (g1 b h s) ⟨s.val / 128 - 1, by have := s.isLt; omega⟩ k e)))
        + ∑ k : Fin 128, x (ix4 (g1 b h s) (n1 s) (i1 s) (⟨128 + k.val, by have := k.isLt; omega⟩ : Fin 256)) * v (ix4 (g1 b h s) (n1 s) k e))
      (l (ix4 (g1 b h s) (n1 s) (i1 s) (0 : Fin 1))) := by
  pointwise
  rfl

/-- A number per row of dilation 4, by position. -/
theorem rows4 (x : FVec Ideal S64x16x128x1 .f32) : (shapeCast S2x8192x8 (shapeCast S2x8192x8x1 (transpose S2x2048x4x8x1 [0, 3, 1, 2, 4] (shapeCast (S2x4x8x2048x1) x shapeCasts_S64x16x128x1_S2x4x8x2048x1) transposes_S2x4x8x2048x1_S2x2048x4x8x1_0_3_1_2_4) shapeCasts_S2x2048x4x8x1_S2x8192x8x1) shapeCasts_S2x8192x8x1_S2x8192x8) (ix3 b s h) = x (ix4 (g4 b h s) (n4 s) (i4 s) (0 : Fin 1)) := by
  pointwise
  rfl

/-- A vector per row of dilation 4, by position. -/
theorem vecs4 (x : FVec Ideal S64x16x128x64 .f32) (e : Fin 64) : (shapeCast S2x8192x8x64 (transpose S2x2048x4x8x64 [0, 3, 1, 2, 4] (shapeCast (S2x4x8x2048x64) x shapeCasts_S64x16x128x64_S2x4x8x2048x64) transposes_S2x4x8x2048x64_S2x2048x4x8x64_0_3_1_2_4) shapeCasts_S2x2048x4x8x64_S2x8192x8x64) (ix4 b s h e) = x (ix4 (g4 b h s) (n4 s) (i4 s) e) := by
  pointwise
  rfl

/-- The rows of dilation 4: exponentials against the values of the window, over the sum. -/
theorem outs4 (x : FVec Ideal S64x16x128x256 .f32) (v : FVec Ideal S64x16x128x64 .f32) (l : FVec Ideal S64x16x128x1 .f32) (e : Fin 64) :
    ((Host.divf (Host.dotGeneral dot_S64x16x128x256_S64x16x256x64_S64x16x128x64_3_2_2_3_01_01 none (x) (concatenate S64x16x256x64 2 [⟨S64x16x128x64, (concatenate S64x16x128x64 1 [⟨S64x1x128x64, (broadcastInDim S64x1x128x64 ![] bcast_S_S64x1x128x64 (constant S_ .f32 0x00000000#32))⟩, ⟨S64x15x128x64, (extractStridedSlice S64x15x128x64 ![0, 0, 0, 0] (v) slices_S64x16x128x64_S64x15x128x64_0_0_0_0)⟩] concatenates_S64x1x128x64_S64x15x128x64_S64x16x128x64_d1)⟩, ⟨S64x16x128x64, (v)⟩] concatenates_S64x16x128x64_S64x16x128x64_S64x16x256x64_d2)) (broadcastInDim S64x16x128x64 ![0, 1, 2, 3] bcast_S64x16x128x1_S64x16x128x64_0_1_2_3 (l))) : FVec Ideal S64x16x128x64 .f32) (ix4 (g4 b h s) (n4 s) (i4 s) e)
    = Ideal.div ((∑ k : Fin 128, x (ix4 (g4 b h s) (n4 s) (i4 s) (⟨k.val, by have := k.isLt; omega⟩ : Fin 256))
          * (if hn : s.val / 4 / 128 < 1 then (0 : EReal) else v (ix4 (g4 b h s) ⟨s.val / 4 / 128 - 1, by have := s.isLt; omega⟩ k e)))
        + ∑ k : Fin 128, x (ix4 (g4 b h s) (n4 s) (i4 s) (⟨128 + k.val, by have := k.isLt; omega⟩ : Fin 256)) * v (ix4 (g4 b h s) (n4 s) k e))
      (l (ix4 (g4 b h s) (n4 s) (i4 s) (0 : Fin 1))) := by
  pointwise
  rfl

/-- A number per row of dilation 16, by position. -/
theorem rows16 (x : FVec Ideal S256x4x128x1 .f32) : (shapeCast S2x8192x8 (shapeCast S2x8192x8x1 (transpose S2x512x16x8x1 [0, 3, 1, 2, 4] (shapeCast (S2x16x8x512x1) x shapeCasts_S256x4x128x1_S2x16x8x512x1) transposes_S2x16x8x512x1_S2x512x16x8x1_0_3_1_2_4) shapeCasts_S2x512x16x8x1_S2x8192x8x1) shapeCasts_S2x8192x8x1_S2x8192x8) (ix3 b s h) = x (ix4 (g16 b h s) (n16 s) (i16 s) (0 : Fin 1)) := by
  pointwise
  rfl

/-- A vector per row of dilation 16, by position. -/
theorem vecs16 (x : FVec Ideal S256x4x128x64 .f32) (e : Fin 64) : (shapeCast S2x8192x8x64 (transpose S2x512x16x8x64 [0, 3, 1, 2, 4] (shapeCast (S2x16x8x512x64) x shapeCasts_S256x4x128x64_S2x16x8x512x64) transposes_S2x16x8x512x64_S2x512x16x8x64_0_3_1_2_4) shapeCasts_S2x512x16x8x64_S2x8192x8x64) (ix4 b s h e) = x (ix4 (g16 b h s) (n16 s) (i16 s) e) := by
  pointwise
  rfl

/-- The rows of dilation 16: exponentials against the values of the window, over the sum. -/
theorem outs16 (x : FVec Ideal S256x4x128x256 .f32) (v : FVec Ideal S256x4x128x64 .f32) (l : FVec Ideal S256x4x128x1 .f32) (e : Fin 64) :
    ((Host.divf (Host.dotGeneral dot_S256x4x128x256_S256x4x256x64_S256x4x128x64_3_2_2_3_01_01 none (x) (concatenate S256x4x256x64 2 [⟨S256x4x128x64, (concatenate S256x4x128x64 1 [⟨S256x1x128x64, (broadcastInDim S256x1x128x64 ![] bcast_S_S256x1x128x64 (constant S_ .f32 0x00000000#32))⟩, ⟨S256x3x128x64, (extractStridedSlice S256x3x128x64 ![0, 0, 0, 0] (v) slices_S256x4x128x64_S256x3x128x64_0_0_0_0)⟩] concatenates_S256x1x128x64_S256x3x128x64_S256x4x128x64_d1)⟩, ⟨S256x4x128x64, (v)⟩] concatenates_S256x4x128x64_S256x4x128x64_S256x4x256x64_d2)) (broadcastInDim S256x4x128x64 ![0, 1, 2, 3] bcast_S256x4x128x1_S256x4x128x64_0_1_2_3 (l))) : FVec Ideal S256x4x128x64 .f32) (ix4 (g16 b h s) (n16 s) (i16 s) e)
    = Ideal.div ((∑ k : Fin 128, x (ix4 (g16 b h s) (n16 s) (i16 s) (⟨k.val, by have := k.isLt; omega⟩ : Fin 256))
          * (if hn : s.val / 16 / 128 < 1 then (0 : EReal) else v (ix4 (g16 b h s) ⟨s.val / 16 / 128 - 1, by have := s.isLt; omega⟩ k e)))
        + ∑ k : Fin 128, x (ix4 (g16 b h s) (n16 s) (i16 s) (⟨128 + k.val, by have := k.isLt; omega⟩ : Fin 256)) * v (ix4 (g16 b h s) (n16 s) k e))
      (l (ix4 (g16 b h s) (n16 s) (i16 s) (0 : Fin 1))) := by
  pointwise
  rfl

/-- The three dilations' numbers, stacked. -/
theorem stack (x y z : FVec Ideal S2x8192x8 .f32) (p : Fin 3) : ((concatenate S3x2x8192x8 0 [⟨S1x2x8192x8, ((broadcastInDim S1x2x8192x8 ![1, 2, 3] bcast_S2x8192x8_S1x2x8192x8_1_2_3 x) : (⟨S1x2x8192x8, .f32⟩ : BufTy).Contents (Elt Ideal))⟩, ⟨S1x2x8192x8, ((broadcastInDim S1x2x8192x8 ![1, 2, 3] bcast_S2x8192x8_S1x2x8192x8_1_2_3 y) : (⟨S1x2x8192x8, .f32⟩ : BufTy).Contents (Elt Ideal))⟩, ⟨S1x2x8192x8, ((broadcastInDim S1x2x8192x8 ![1, 2, 3] bcast_S2x8192x8_S1x2x8192x8_1_2_3 z) : (⟨S1x2x8192x8, .f32⟩ : BufTy).Contents (Elt Ideal))⟩] concatenates_S1x2x8192x8_S1x2x8192x8_S1x2x8192x8_S3x2x8192x8_d0 : (⟨S3x2x8192x8, .f32⟩ : BufTy).Contents (Elt Ideal)) : FVec Ideal S3x2x8192x8 .f32) (ix4 p b s h)
    = if p.val < 1 then x (ix3 b s h) else if p.val - 1 < 1 then y (ix3 b s h) else z (ix3 b s h) := by
  pointwise
  rfl

/-- The exponentials of the stacked numbers, shifted by their maximum. -/
theorem weights (x : FVec Ideal S3x2x8192x8 .f32) (p : Fin 3) : (Host.exp (subf (x) (broadcastInDim S3x2x8192x8 ![0, 1, 2, 3] bcast_S1x2x8192x8_S3x2x8192x8_0_1_2_3 (broadcastInDim S1x2x8192x8 ![1, 2, 3] bcast_S2x8192x8_S1x2x8192x8_1_2_3 (maximumf (broadcastInDim S2x8192x8 ![] bcast_S_S2x8192x8 (constant S_ .f32 0xFF800000#32)) (Host.reduce FloatOps.maximumf (x) (constant S_ .f32 0xFF800000#32) reducesTo_S3x2x8192x8_S2x8192x8_d0 h_S_))))) : FVec Ideal S3x2x8192x8 .f32) (ix4 p b s h)
    = Ideal.exp (x (ix4 p b s h) - max (Ideal.ofBits .f32 4286578688#32)
        (Finset.fold max (Ideal.ofBits .f32 4286578688#32) x (Finset.univ.filter fun i => reducesTo_S3x2x8192x8_S2x8192x8_d0.drop i = ix3 b s h))) := by
  pointwise

/-- The weighted sum of the three dilations' vectors, two heads side by side. -/
theorem summed (w : FVec Ideal S3x2x8192x8 .f32) (x y z : FVec Ideal S2x8192x8x64 .f32) (hp : Fin 4) (l : Fin 128) :
    (transpose S2x4x8192x128 [0, 2, 1, 3] (shapeCast _ (shapeCast _ (Host.reduceAdd (mulf (broadcastInDim S3x2x8192x8x64 ![0, 1, 2, 3, 4] bcast_S3x2x8192x8x1_S3x2x8192x8x64_0_1_2_3_4 (broadcastInDim S3x2x8192x8x1 ![0, 1, 2, 3] bcast_S3x2x8192x8_S3x2x8192x8x1_0_1_2_3 (Host.divf (w) (broadcastInDim S3x2x8192x8 ![0, 1, 2, 3] bcast_S1x2x8192x8_S3x2x8192x8_0_1_2_3 (broadcastInDim S1x2x8192x8 ![1, 2, 3] bcast_S2x8192x8_S1x2x8192x8_1_2_3 (Host.reduceAdd (w) (constant S_ .f32 0x00000000#32) reducesTo_S3x2x8192x8_S2x8192x8_d0 h_S_)))))) ((concatenate S3x2x8192x8x64 0 [⟨S1x2x8192x8x64, ((broadcastInDim S1x2x8192x8x64 ![1, 2, 3, 4] bcast_S2x8192x8x64_S1x2x8192x8x64_1_2_3_4 x) : (⟨S1x2x8192x8x64, .f32⟩ : BufTy).Contents (Elt Ideal))⟩, ⟨S1x2x8192x8x64, ((broadcastInDim S1x2x8192x8x64 ![1, 2, 3, 4] bcast_S2x8192x8x64_S1x2x8192x8x64_1_2_3_4 y) : (⟨S1x2x8192x8x64, .f32⟩ : BufTy).Contents (Elt Ideal))⟩, ⟨S1x2x8192x8x64, ((broadcastInDim S1x2x8192x8x64 ![1, 2, 3, 4] bcast_S2x8192x8x64_S1x2x8192x8x64_1_2_3_4 z) : (⟨S1x2x8192x8x64, .f32⟩ : BufTy).Contents (Elt Ideal))⟩] concatenates_S1x2x8192x8x64_S1x2x8192x8x64_S1x2x8192x8x64_S3x2x8192x8x64_d0 : (⟨S3x2x8192x8x64, .f32⟩ : BufTy).Contents (Elt Ideal)))) (constant S_ .f32 0x00000000#32) reducesTo_S3x2x8192x8x64_S2x8192x8x64_d0 h_S_) shapeCasts_S2x8192x8x64_S2x8192x512) shapeCasts_S2x8192x512_S2x8192x4x128) transposes_S2x8192x4x128_S2x4x8192x128_0_2_1_3 : FVec Ideal S2x4x8192x128 .f32) (ix4 b hp s l)
    = ∑ p : Fin 3, Ideal.div (w (ix4 p b s ⟨hp.val * 2 + l.val / 64, by have := hp.isLt; have := l.isLt; omega⟩)) (∑ p' : Fin 3, w (ix4 p' b s ⟨hp.val * 2 + l.val / 64, by have := hp.isLt; have := l.isLt; omega⟩))
        * (if p.val < 1 then x (ix4 b s ⟨hp.val * 2 + l.val / 64, by have := hp.isLt; have := l.isLt; omega⟩ ⟨l.val % 64, Nat.mod_lt _ (by decide)⟩) else if p.val - 1 < 1 then y (ix4 b s ⟨hp.val * 2 + l.val / 64, by have := hp.isLt; have := l.isLt; omega⟩ ⟨l.val % 64, Nat.mod_lt _ (by decide)⟩) else z (ix4 b s ⟨hp.val * 2 + l.val / 64, by have := hp.isLt; have := l.isLt; omega⟩ ⟨l.val % 64, Nat.mod_lt _ (by decide)⟩)) := by
  pointwise
  rfl

end Cert.Attn

end
-- ==== Proof.Attn.Ref.lean ====
/- The reference's result array: at every index the attention of its batch entry and head (`ref_final`). Each
   dilation's rows are those of `RefRow`, laid out and summed as `RefShape` says. -/
module

public import proofs.«01_k».proof.Proof.Attn.RefShape
public import Idealize.ShloMosaic.Lib.Pointwise

@[expose] public section

set_option maxRecDepth 16384

noncomputable section

namespace Cert.Attn

open Cert.ReferenceIdeal Cert.ReferenceIdeal.Gen Cert.ReferenceIdeal.Value Idealize.ShloMosaic Idealize.ShloMosaic.TcCoe Idealize.ShloMosaic.StableHlo

variable (V0 : Valuation τ sig (Elt Ideal)) (b : Fin 2) (h : Fin 8) (s : Fin 8192)

/-! ## The three dilations together -/

/-- A sum with a logarithm, entry by entry. -/
theorem add_log {T : Shape} (x y : FVec Ideal T .f32) (i : T.Idx) : addf x (Host.log y) i = x i + Ideal.log (y i) := rfl

/-- The log denominators, one dilation after the other. -/
theorem z1 : (addf (res_main_v42 V0) (Host.log (res_main_v47 V0)) : FVec Ideal S16x64x128x1 .f32) (ix4 (g1 b h s) (n1 s) (i1 s) (0 : Fin 1))
    = lseD (feat (aq V0) b h) (feat (ak V0) b h) 1 s.val :=
  (add_log (res_main_v42 V0) (res_main_v47 V0) (ix4 (g1 b h s) (n1 s) (i1 s) (0 : Fin 1))).trans
    (pat_lse (sc := sc1 V0 b h s) (m := mx1 V0 b h s) (l := sm1 V0 b h s) (s1 V0 b h s) (m1 V0 b h s) (l1 V0 b h s))

theorem z4 : (addf (res_main_v102 V0) (Host.log (res_main_v107 V0)) : FVec Ideal S64x16x128x1 .f32) (ix4 (g4 b h s) (n4 s) (i4 s) (0 : Fin 1))
    = lseD (feat (aq V0) b h) (feat (ak V0) b h) 4 s.val :=
  (add_log (res_main_v102 V0) (res_main_v107 V0) (ix4 (g4 b h s) (n4 s) (i4 s) (0 : Fin 1))).trans
    (pat_lse (sc := sc4 V0 b h s) (m := mx4 V0 b h s) (l := sm4 V0 b h s) (s4 V0 b h s) (m4 V0 b h s) (l4 V0 b h s))

theorem z16 : (addf (res_main_v162 V0) (Host.log (res_main_v167 V0)) : FVec Ideal S256x4x128x1 .f32) (ix4 (g16 b h s) (n16 s) (i16 s) (0 : Fin 1))
    = lseD (feat (aq V0) b h) (feat (ak V0) b h) 16 s.val :=
  (add_log (res_main_v162 V0) (res_main_v167 V0) (ix4 (g16 b h s) (n16 s) (i16 s) (0 : Fin 1))).trans
    (pat_lse (sc := sc16 V0 b h s) (m := mx16 V0 b h s) (l := sm16 V0 b h s) (s16 V0 b h s) (m16 V0 b h s) (l16 V0 b h s))

/-- The stacked log denominators. -/
theorem lses (p : Fin 3) : res_main_v183 V0 (ix4 p b s h)
    = if p.val < 1 then lseD (feat (aq V0) b h) (feat (ak V0) b h) 1 s.val
      else if p.val - 1 < 1 then lseD (feat (aq V0) b h) (feat (ak V0) b h) 4 s.val else lseD (feat (aq V0) b h) (feat (ak V0) b h) 16 s.val := by
  unfold res_main_v183
  refine (stack b h s _ _ _ p).trans ?_
  rw [rows1, rows4, rows16, z1, z4, z16]

/-- The shift under the softmax over the dilations: when the log denominators are real, a real number. -/
theorem shift_real (x : S3x2x8192x8.Idx → EReal) (h' : S3x2x8192x8.ReducesTo [0] S2x8192x8) (h0 : S3x2x8192x8.Reduces [0] S2x8192x8)
    (hx : ∀ p : Fin 3, ∃ r : ℝ, x (ix4 p b s h) = r) :
    ∃ M : ℝ, max (Ideal.ofBits .f32 4286578688#32)
      (Finset.fold max (Ideal.ofBits .f32 4286578688#32) x (Finset.univ.filter fun z => h'.drop z = ix3 b s h)) = M := by
  classical
  rw [ofBits_bot, h'.drop_eq_drop h0]
  have e : (Finset.fold max ⊥ x (Finset.univ.filter fun z => h0.drop z = ix3 b s h)) = (Finset.univ : Finset (Fin 3)).sup fun p => x (ix4 p b s h) := by
    refine (h0.fold_filter_drop_single max ⊥ x (ix3 b s h)).trans ?_
    refine congrArg (fun f => Finset.fold max ⊥ f Finset.univ) (funext fun j => congrArg x (funext fun c => Fin.ext ?_))
    rw [h0.lift_val]
    fin_cases c <;> rfl
  rw [e, max_eq_right bot_le]
  obtain ⟨p, -, hp⟩ := Finset.exists_mem_eq_sup (Finset.univ : Finset (Fin 3)) ⟨0, Finset.mem_univ _⟩ fun p => x (ix4 p b s h)
  rw [hp]
  exact hx p

/-- The outputs of dilation 1. -/
theorem o1 (hq : Finite (aq V0)) (hk : Finite (ak V0)) (e : Fin 64) :
    Ideal.div ((∑ k : Fin 128, ex1 V0 b h s (⟨k.val, by have := k.isLt; omega⟩ : Fin 256)
          * (if hn : s.val / 128 < 1 then (0 : EReal) else res_main_v12 V0 (ix4 (g1 b h s) ⟨s.val / 128 - 1, by have := s.isLt; omega⟩ k e)))
        + ∑ k : Fin 128, ex1 V0 b h s (⟨128 + k.val, by have := k.isLt; omega⟩ : Fin 256) * res_main_v12 V0 (ix4 (g1 b h s) (n1 s) k e))
      (sm1 V0 b h s) = outD (feat (aq V0) b h) (feat (ak V0) b h) (fun n => feat (av V0) b h n e) 1 s.val :=
  pat_out (hq.feat b h) (hk.feat b h) (sc := sc1 V0 b h s) (e := ex1 V0 b h s) (m := mx1 V0 b h s) (l := sm1 V0 b h s)
    (s1 V0 b h s) (m1 V0 b h s) (l1 V0 b h s) (e1 V0 b h s) _ _ (fun k hk => va1 V0 b h s k e hk) (fun k hk => vb1 V0 b h s k e hk)

/-- The outputs of dilation 4. -/
theorem o4 (hq : Finite (aq V0)) (hk : Finite (ak V0)) (e : Fin 64) :
    Ideal.div ((∑ k : Fin 128, ex4 V0 b h s (⟨k.val, by have := k.isLt; omega⟩ : Fin 256)
          * (if hn : s.val / 4 / 128 < 1 then (0 : EReal) else res_main_v72 V0 (ix4 (g4 b h s) ⟨s.val / 4 / 128 - 1, by have := s.isLt; omega⟩ k e)))
        + ∑ k : Fin 128, ex4 V0 b h s (⟨128 + k.val, by have := k.isLt; omega⟩ : Fin 256) * res_main_v72 V0 (ix4 (g4 b h s) (n4 s) k e))
      (sm4 V0 b h s) = outD (feat (aq V0) b h) (feat (ak V0) b h) (fun n => feat (av V0) b h n e) 4 s.val :=
  pat_out (hq.feat b h) (hk.feat b h) (sc := sc4 V0 b h s) (e := ex4 V0 b h s) (m := mx4 V0 b h s) (l := sm4 V0 b h s)
    (s4 V0 b h s) (m4 V0 b h s) (l4 V0 b h s) (e4 V0 b h s) _ _ (fun k hk => va4 V0 b h s k e hk) (fun k hk => vb4 V0 b h s k e hk)

/-- The outputs of dilation 16. -/
theorem o16 (hq : Finite (aq V0)) (hk : Finite (ak V0)) (e : Fin 64) :
    Ideal.div ((∑ k : Fin 128, ex16 V0 b h s (⟨k.val, by have := k.isLt; omega⟩ : Fin 256)
          * (if hn : s.val / 16 / 128 < 1 then (0 : EReal) else res_main_v132 V0 (ix4 (g16 b h s) ⟨s.val / 16 / 128 - 1, by have := s.isLt; omega⟩ k e)))
        + ∑ k : Fin 128, ex16 V0 b h s (⟨128 + k.val, by have := k.isLt; omega⟩ : Fin 256) * res_main_v132 V0 (ix4 (g16 b h s) (n16 s) k e))
      (sm16 V0 b h s) = outD (feat (aq V0) b h) (feat (ak V0) b h) (fun n => feat (av V0) b h n e) 16 s.val :=
  pat_out (hq.feat b h) (hk.feat b h) (sc := sc16 V0 b h s) (e := ex16 V0 b h s) (m := mx16 V0 b h s) (l := sm16 V0 b h s)
    (s16 V0 b h s) (m16 V0 b h s) (l16 V0 b h s) (e16 V0 b h s) _ _ (fun k hk => va16 V0 b h s k e hk) (fun k hk => vb16 V0 b h s k e hk)

/-- The reference's result at one head and lane. -/
theorem ref_head (hq : Finite (aq V0)) (hk : Finite (ak V0)) (hp : Fin 4) (l : Fin 128) :
    res_main_v205 V0 (ix4 b hp s l)
    = att (feat (aq V0) b ⟨hp.val * 2 + l.val / 64, by have := hp.isLt; have := l.isLt; omega⟩)
        (feat (ak V0) b ⟨hp.val * 2 + l.val / 64, by have := hp.isLt; have := l.isLt; omega⟩)
        (fun n => feat (av V0) b ⟨hp.val * 2 + l.val / 64, by have := hp.isLt; have := l.isLt; omega⟩ n ⟨l.val % 64, Nat.mod_lt _ (by decide)⟩) s.val := by
  unfold res_main_v205
  refine (summed b s _ _ _ _ hp l).trans ?_
  generalize (⟨hp.val * 2 + l.val / 64, by have := hp.isLt; have := l.isLt; omega⟩ : Fin 8) = h
  generalize (⟨l.val % 64, Nat.mod_lt _ (by decide)⟩ : Fin 64) = e
  rw [vecs1, vecs4, vecs16, outs1, outs4, outs16]
  have E1 := o1 V0 b h s hq hk e
  have E4 := o4 V0 b h s hq hk e
  have E16 := o16 V0 b h s hq hk e
  dsimp only [ex1, sm1, ex4, sm4, ex16, sm16] at E1 E4 E16
  rw [E1, E4, E16]
  obtain ⟨A, hA⟩ := lseD_real (hq.feat b h) (hk.feat b h) 16 s.val
  obtain ⟨B, hB⟩ := lseD_real (hq.feat b h) (hk.feat b h) 4 s.val
  obtain ⟨C, hC⟩ := lseD_real (hq.feat b h) (hk.feat b h) 1 s.val
  have L0 := lses V0 b h s 0
  have L1 := lses V0 b h s 1
  have L2 := lses V0 b h s 2
  rw [if_pos (by decide), hC] at L0
  rw [if_neg (by decide), if_pos (by decide), hB] at L1
  rw [if_neg (by decide), if_neg (by decide), hA] at L2
  obtain ⟨M, hM⟩ := shift_real b h s (res_main_v183 V0) reducesTo_S3x2x8192x8_S2x8192x8_d0 (by decide) (fun p => by
    fin_cases p
    · exact ⟨C, L0⟩
    · exact ⟨B, L1⟩
    · exact ⟨A, L2⟩)
  have W : ∀ (p : Fin 3) (r : ℝ), res_main_v183 V0 (ix4 p b s h) = (r : EReal) → res_main_v190 V0 (ix4 p b s h) = Ideal.exp ((r : EReal) - (M : EReal)) :=
    fun p r hr => (weights b h s (res_main_v183 V0) p).trans (by rw [hM, hr])
  rw [Fin.sum_univ_three, Fin.sum_univ_three, if_pos (by decide), if_neg (by decide), if_pos (by decide), if_neg (by decide), if_neg (by decide),
    W 0 C L0, W 1 B L1, W 2 A L2]
  unfold att
  rw [hA, hB, hC, merge _ _ _ A B C M]

/-- The reference's result. -/
theorem ref_final (hq : Finite (aq V0)) (hk : Finite (ak V0)) (hp : Fin 4) (l : Fin 128) :
    res_main_v205 V0 (ix4 b hp s l) = AttOut (aq V0) (ak V0) (av V0) b hp s l := by
  have hH : (⟨2 * hp.val + l.val / 64, by have := hp.isLt; have := l.isLt; omega⟩ : Fin 8)
      = ⟨hp.val * 2 + l.val / 64, by have := hp.isLt; have := l.isLt; omega⟩ := Fin.ext (by simp only; omega)
  unfold AttOut
  rw [hH]
  exact ref_head V0 b s hq hk hp l

end Cert.Attn

end
-- ==== Proof.Attn.Claim.lean ====
/- The claims about the attention: every program runs and leaves its arguments, and with real queries and keys the
   kernel's result is the reference's. -/
module

public import proofs.«01_k».proof.Defs
public import proofs.«01_k».proof.Proof.Gen.Pre_finite
public import proofs.«01_k».proof.Proof.Attn.Kernel
public import proofs.«01_k».proof.Proof.Attn.Ref
public import Idealize.ShloMosaic.Lib.ReduceAll
public import Idealize.ShloMosaic.Lib.Quiescent

@[expose] public section

set_option maxRecDepth 16384

noncomputable section

namespace Cert.Attn

open Idealize.ShloMosaic Idealize.ShloMosaic.TcCoe Idealize.ShloMosaic.StableHlo Idealize.SL.Sem

/-- An absolute value compared below infinity is of a real number. -/
theorem real_of_abs (x : EReal) (h : Ideal.cmp .olt (max x (-x)) (Ideal.ofBits .f32 2139095040#32) = 1#1) : ∃ r : ℝ, x = r := by
  have e : Ideal.ofBits .f32 2139095040#32 = ⊤ := by
    simp [Ideal.ofBits, Ideal.ieee]
  rw [e] at h
  induction x with
  | bot => simp [Ideal.cmp] at h
  | top => simp [Ideal.cmp] at h
  | coe r => exact ⟨r, rfl⟩

/-- The precondition gives real queries and keys. -/
theorem finite_of_pre [Cert.Pre_finite.Facts] (q k v : FVec Ideal Cert.Pre_finite.S2x8192x8x64 .f32)
    (h : Cert.Pre_finite.fn q k v = fun _ => 1#1) : Finite q ∧ Finite k := by
  have h0 := congrFun h (Shape.Idx.first Cert.Pre_finite.Facts.h_S_)
  have : Subsingleton Cert.Pre_finite.S_.Idx := ⟨fun a b => funext fun c => c.elim0⟩
  unfold Cert.Pre_finite.fn at h0
  obtain ⟨h1, h2⟩ := (andi_iff _ _).mp h0
  exact ⟨fun i => real_of_abs _ (Host.reduce_andi_all _ _ _ _ _ h1 i), fun i => real_of_abs _ (Host.reduce_andi_all _ _ _ _ _ h2 i)⟩

/-- The reference runs, leaves its arguments, and has no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun _ h => ⟨fun c => (h c).2, sem_eq_zero_of_no_sems (by decide) _⟩) (Cert.ReferenceIdeal.Value.run m g)

/-- The reference's result array. -/
theorem ref_all (V0 : Valuation Cert.ReferenceIdeal.τ Cert.ReferenceIdeal.sig (Elt Ideal)) (hq : Finite (aq V0)) (hk : Finite (ak V0)) :
    Cert.ReferenceIdeal.Value.res_main_v205 V0 = fun i : Shape.Idx ⟨4, ![2, 4, 8192, 128]⟩ => AttOut (aq V0) (ak V0) (av V0) (i 0) (i 1) (i 2) (i 3) := by
  funext i
  have hi : i = ix4 (i 0) (i 1) (i 2) (i 3) := funext fun a => by fin_cases a <;> rfl
  exact (congrArg (Cert.ReferenceIdeal.Value.res_main_v205 V0) hi).trans (ref_final V0 (i 0) (i 2) hq hk (i 1) (i 3))

/-- With real queries and keys the kernel's result is the reference's. -/
theorem equal : Cert.algebraic_KernelIdeal_ReferenceIdeal_pre_finite := by
  intro m g m' g' hpre hargs
  refine ⟨fun c => fun i : Shape.Idx ⟨4, ![2, 4, 8192, 128]⟩ => AttOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2) (i 3),
    (θ_run _ _ _).mono (fun r h c => ?_) (Cert.KernelIdeal.Value.run_blocks m g),
    (θ_run _ _ _).mono (fun r h c => ?_) (Cert.ReferenceIdeal.Value.run m' g')⟩
  · obtain ⟨hq, hk⟩ := finite_of_pre _ _ _ (hpre c)
    exact ⟨(h c).1.trans (final m c hq hk), (h c).2⟩
  · obtain ⟨e0, e1, e2⟩ := hargs c
    obtain ⟨hq, hk⟩ := finite_of_pre _ _ _ (hpre c)
    have a0 : aq (launchContents m' c) = m ((c.tc : Thread Cert.KernelIdeal.nD Cert.KernelIdeal.τ).loc Cert.KernelIdeal.main_arg0) := e0
    have a1 : ak (launchContents m' c) = m ((c.tc : Thread Cert.KernelIdeal.nD Cert.KernelIdeal.τ).loc Cert.KernelIdeal.main_arg1) := e1
    have a2 : av (launchContents m' c) = m ((c.tc : Thread Cert.KernelIdeal.nD Cert.KernelIdeal.τ).loc Cert.KernelIdeal.main_arg2) := e2
    rw [← a0] at hq
    rw [← a1] at hk
    have k1 := ref_all (launchContents m' c) hq hk
    rw [a0, a1, a2] at k1
    exact ⟨(h c).1.trans k1, (h c).2⟩

end Cert.Attn

end
-- ==== Proof.Ple.Spec.lean ====
/- What one row of the per-layer-embedding step is: two root-mean-square norms with a sigmoid gate between them. -/
module

public import Idealize.ShloMosaic.Lib.Pointwise
public import Idealize.ShloMosaic.Lib.ValueIdx

@[expose] public section

noncomputable section

namespace Cert.Ple

open Idealize.ShloMosaic

/-- The root-mean-square norm of a row of 1024, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The row after the gated projection is added. -/
def mid (h : Fin 1024 → EReal) (p : Fin 256 → EReal) (g : Fin 1024 → EReal) (wg : Fin 1024 → Fin 1024 → EReal)
    (wp : Fin 256 → Fin 1024 → EReal) (j : Fin 1024) : EReal :=
  h j + Ideal.logistic (∑ k, rms h g k * wg k j) * ∑ k, p k * wp k j

/-- The row's result. -/
def out (h : Fin 1024 → EReal) (p : Fin 256 → EReal) (g : Fin 1024 → EReal) (wg : Fin 1024 → Fin 1024 → EReal)
    (wp : Fin 256 → Fin 1024 → EReal) (gf : Fin 1024 → EReal) (j : Fin 1024) : EReal :=
  rms (mid h p g wg wp) gf j

end Cert.Ple

end
-- ==== Proof.Ple.Block.lean ====
/- One tile of the per-layer-embedding kernel, entry by entry. -/
module

public import proofs.«01_k».proof.Proof.Ple.Spec
public import proofs.«01_k».proof.Proof.Gen.PleKernelIdeal.Skeleton

@[expose] public section

set_option maxRecDepth 16384

noncomputable section

namespace Cert.Ple

open Cert.PleKernelIdeal Cert.PleKernelIdeal.Gen Idealize.ShloMosaic Idealize.ShloMosaic.TcCoe

/-- A tile's rows divided by their root mean squares. -/
def unitTile (x : FVec Ideal S1024x1024 .f32) : FVec Ideal S1024x1024 .f32 :=
  mulf x (broadcastTo S1024x1024 (rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024)

/-- The tile's normed rows in the narrow format. -/
def normTile (x : FVec Ideal S1024x1024 .f32) (g : FVec Ideal S1x1024 .f32) : FVec Ideal S1024x1024 .bf16 :=
  truncf .bf16 (mulf (unitTile x) (broadcastTo S1024x1024 (shapeCast S1x1024 g shapeCasts_S1x1024_S1x1024) broadcasts_S1x1024_S1024x1024)) bitsLt_bf16_f32

/-- The tile after the gated projection is added, from its normed rows `n`. -/
def midTile (h : FVec Ideal S1024x1024 .f32) (n : FVec Ideal S1024x1024 .bf16) (p : FVec Ideal S1024x256 .f32)
    (wg : FVec Ideal S1024x1024 .bf16) (wp : FVec Ideal S256x1024 .bf16) : FVec Ideal S1024x1024 .f32 :=
  addf h (mulf (logistic (matmul dot_S1024x1024_S1024x1024_S1024x1024_1_0_0_1_n_n none n
      (shapeCast S1024x1024 wg shapeCasts_S1024x1024_S1024x1024) (constant S1024x1024 .f32 0x00000000#32)))
    (matmul dot_S1024x256_S256x1024_S1024x1024_1_0_0_1_n_n none (truncf .bf16 p bitsLt_bf16_f32)
      (shapeCast S256x1024 wp shapeCasts_S256x1024_S256x1024) (constant S1024x1024 .f32 0x00000000#32)))

theorem unitTile_apply (x : FVec Ideal S1024x1024 .f32) (r j : Fin 1024) :
    unitTile x (ix2 r j) = x (ix2 r j) * Ideal.rsqrt (Ideal.div (∑ k : Fin 1024, x (ix2 r k) * x (ix2 r k)) (Ideal.ofBits .f32 0x44800000#32) + Ideal.ofBits .f32 0x358637BD#32) := by
  pointwise [unitTile]

theorem normTile_apply (x : FVec Ideal S1024x1024 .f32) (g : FVec Ideal S1x1024 .f32) (r j : Fin 1024) :
    normTile x g (ix2 r j) = unitTile x (ix2 r j) * g (ix2 (0 : Fin 1) j) := by
  pointwise [normTile]

theorem midTile_apply (h : FVec Ideal S1024x1024 .f32) (n : FVec Ideal S1024x1024 .bf16) (p : FVec Ideal S1024x256 .f32)
    (wg : FVec Ideal S1024x1024 .bf16) (wp : FVec Ideal S256x1024 .bf16) (r j : Fin 1024) :
    midTile h n p wg wp (ix2 r j) = h (ix2 r j) + Ideal.logistic (∑ k : Fin 1024, n (ix2 r k) * wg (ix2 k j)) * ∑ k : Fin 256, p (ix2 r k) * wp (ix2 k j) := by
  pointwise [midTile]

/-- The tile written, over the operands. -/
theorem tile_eq (P0 : FVec Ideal S1024x1024 .f32) (P1 : FVec Ideal S1x1024 .f32) (P2 : FVec Ideal S1024x1024 .bf16) (P3 : FVec Ideal S1024x256 .f32)
    (P4 : FVec Ideal S256x1024 .bf16) : k0_pay3 P0 P1 P2 P3 P4 = unitTile (midTile P0 (normTile P0 P1) P3 P2 P4) := rfl

/-- An entry of the tile is the row's result. -/
theorem tile_apply (P0 : FVec Ideal S1024x1024 .f32) (P1 : FVec Ideal S1x1024 .f32) (P2 : FVec Ideal S1024x1024 .bf16) (P3 : FVec Ideal S1024x256 .f32)
    (P4 : FVec Ideal S256x1024 .bf16) (P5 : FVec Ideal S1x1024 .f32) (r j : Fin 1024) :
    (k0_pay1 (k0_pay2 P5) (k0_pay3 P0 P1 P2 P3 P4) : FVec Ideal S1024x1024 .f32) (ix2 r j) = out (fun k => P0 (ix2 r k)) (fun k => P3 (ix2 r k)) (fun k => P1 (ix2 (0 : Fin 1) k))
      (fun k l => P2 (ix2 k l)) (fun k l => P4 (ix2 k l)) (fun k => P5 (ix2 (0 : Fin 1) k)) j := by
  have e : (k0_pay1 (k0_pay2 P5) (k0_pay3 P0 P1 P2 P3 P4) : FVec Ideal S1024x1024 .f32) (ix2 r j) = k0_pay3 P0 P1 P2 P3 P4 (ix2 r j) * P5 (ix2 (0 : Fin 1) j) := by
    pointwise [k0_pay1, k0_pay2]
  rw [e, tile_eq, unitTile_apply]
  simp only [midTile_apply, normTile_apply, unitTile_apply]
  rfl

end Cert.Ple

end
-- ==== Proof.Ple.Kernel.lean ====
/- The per-layer-embedding kernel's result array, entry by entry (`final`). -/
module

public import proofs.«01_k».proof.Proof.Ple.Block
public import proofs.«01_k».proof.Proof.Gen.PleKernelIdeal.Value
public import Idealize.ShloMosaic.Lib.Pipeline.ValueKit

@[expose] public section

set_option maxRecDepth 16384

noncomputable section

namespace Cert.Ple

open Cert.PleKernelIdeal Cert.PleKernelIdeal.Gen Idealize.ShloMosaic Idealize.ShloMosaic.TcCoe

variable (m : (ℓ : Loc nD τ sig) → Buf (Elt Ideal) ℓ)

theorem idx0 (t : Fin cfg0.N) : win0_0.index t = ![(grid0.coords t 0).val, 0] :=
  (by decide +kernel : ∀ t : Fin grid0.N, win0_0.index t = ![(grid0.coords t 0).val, 0]) t
theorem idx1 (t : Fin cfg0.N) : win0_1.index t = ![(grid0.coords t 0).val, 0] :=
  (by decide +kernel : ∀ t : Fin grid0.N, win0_1.index t = ![(grid0.coords t 0).val, 0]) t
theorem idx2 (t : Fin cfg0.N) : win0_2.index t = ![0, 0] := (by decide +kernel : ∀ t : Fin grid0.N, win0_2.index t = ![0, 0]) t
theorem idx3 (t : Fin cfg0.N) : win0_3.index t = ![0, 0] := (by decide +kernel : ∀ t : Fin grid0.N, win0_3.index t = ![0, 0]) t
theorem idx4 (t : Fin cfg0.N) : win0_4.index t = ![0, 0] := (by decide +kernel : ∀ t : Fin grid0.N, win0_4.index t = ![0, 0]) t
theorem idx5 (t : Fin cfg0.N) : win0_5.index t = ![0, 0] := (by decide +kernel : ∀ t : Fin grid0.N, win0_5.index t = ![0, 0]) t
theorem idx6 (t : Fin cfg0.N) : win0_6.index t = ![(grid0.coords t 0).val, 0] :=
  (by decide +kernel : ∀ t : Fin grid0.N, win0_6.index t = ![(grid0.coords t 0).val, 0]) t

/-- The operands the host prepares. -/
theorem V_g (c : Dev nD) (j : Fin 1024) : V m c main_v0 (ix2 (0 : Fin 1) j) = m ((c : Thread nD τ).loc main_arg2) (ix1 j) := by
  entry_read
  pointwise
theorem V_wg (c : Dev nD) (i) : V m c main_v1 i = m ((c : Thread nD τ).loc main_arg3) i := by
  entry_read
  rfl
theorem V_wp (c : Dev nD) (i) : V m c main_v2 i = m ((c : Thread nD τ).loc main_arg4) i := by
  entry_read
  rfl
theorem V_gf (c : Dev nD) (j : Fin 1024) : V m c main_v3 (ix2 (0 : Fin 1) j) = m ((c : Thread nD τ).loc main_arg5) (ix1 j) := by
  entry_read
  pointwise

/-- The row of the array a row of the tile is. -/
def rowAt (t : Fin cfg0.N) (ρ : Fin 1024) : Fin 16384 :=
  ⟨1024 * (grid0.coords t 0).val + ρ.val, by have h : (grid0.coords t 0).val < 16 := (grid0.coords t 0).isLt; omega⟩

theorem blk0 (c : Dev nD) (t : Fin cfg0.N) (ρ k : Fin 1024) :
    (iblk m c 0 t : FVec Ideal S1024x1024 .f32) (ix2 ρ k) = m ((c : Thread nD τ).loc main_arg0) (ix2 (rowAt t ρ) k) := by
  unfold rowAt
  blk_simp [iblk]
  rw [V_main_arg0]
  congr 1
  blk_ext [idx0 t]
theorem blk1 (c : Dev nD) (t : Fin cfg0.N) (ρ : Fin 1024) (k : Fin 256) :
    (iblk m c 1 t : FVec Ideal S1024x256 .f32) (ix2 ρ k) = m ((c : Thread nD τ).loc main_arg1) (ix2 (rowAt t ρ) k) := by
  unfold rowAt
  blk_simp [iblk]
  rw [V_main_arg1]
  congr 1
  blk_ext [idx1 t]
theorem blk2 (c : Dev nD) (t : Fin cfg0.N) (k : Fin 1024) :
    (iblk m c 2 t : FVec Ideal S1x1024 .f32) (ix2 (0 : Fin 1) k) = m ((c : Thread nD τ).loc main_arg2) (ix1 k) := by
  blk_simp [iblk]
  refine Eq.trans ?_ (V_g m c k)
  congr 1
  blk_ext [idx2 t]
theorem blk3 (c : Dev nD) (t : Fin cfg0.N) (k l : Fin 1024) :
    (iblk m c 3 t : FVec Ideal S1024x1024 .bf16) (ix2 k l) = m ((c : Thread nD τ).loc main_arg3) (ix2 k l) := by
  blk_simp [iblk]
  rw [V_wg]
  congr 1
  blk_ext [idx3 t]
theorem blk4 (c : Dev nD) (t : Fin cfg0.N) (k : Fin 256) (l : Fin 1024) :
    (iblk m c 4 t : FVec Ideal S256x1024 .bf16) (ix2 k l) = m ((c : Thread nD τ).loc main_arg4) (ix2 k l) := by
  blk_simp [iblk]
  rw [V_wp]
  congr 1
  blk_ext [idx4 t]
theorem blk5 (c : Dev nD) (t : Fin cfg0.N) (k : Fin 1024) :
    (iblk m c 5 t : FVec Ideal S1x1024 .f32) (ix2 (0 : Fin 1) k) = m ((c : Thread nD τ).loc main_arg5) (ix1 k) := by
  blk_simp [iblk]
  refine Eq.trans ?_ (V_gf m c k)
  congr 1
  blk_ext [idx5 t]

/-- The whole result, from the arrays of the arguments. -/
def OutAll (h : FVec Ideal S16384x1024 .f32) (p : FVec Ideal S16384x256 .f32) (g : FVec Ideal S1024 .f32) (wg : FVec Ideal S1024x1024 .f32)
    (wp : FVec Ideal S256x1024 .f32) (gf : FVec Ideal S1024 .f32) : FVec Ideal S16384x1024 .f32 := fun i =>
  out (fun k => h (ix2 (i 0) k)) (fun k => p (ix2 (i 0) k)) (fun k => g (ix1 k)) (fun k l => wg (ix2 k l)) (fun k l => wp (ix2 k l)) (fun k => gf (ix1 k)) (i 1)

/-- The tile's rows are rows of the result. -/
theorem tile_at (c : Dev nD) (t : Fin cfg0.N) (ρ j : Fin 1024) :
    (k0_pay1 (k0_pay2 (iblk m c 5 t)) (k0_pay3 (iblk m c 0 t) (iblk m c 2 t) (iblk m c 3 t) (iblk m c 1 t) (iblk m c 4 t)) : FVec Ideal S1024x1024 .f32) (ix2 ρ j)
      = OutAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 (rowAt t ρ) j) := by
  refine (tile_apply _ _ _ _ _ _ ρ j).trans ?_
  simp only [blk0, blk1, blk2, blk3, blk4, blk5]
  rfl

/-- The kernel's result array. -/
theorem final (c : Dev nD) :
    (dats m 0 c).arrAt 6 cfg0.N = OutAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  have hy : y = ix2 (y 0) (y 1) := funext fun a => by fin_cases a <;> rfl
  refine (congrArg _ hy).trans ((tile_at m c t (y 0) (y 1)).trans (congrArg _ ?_))
  unfold rowAt
  blk_ext [idx6 t]

end Cert.Ple

end
-- ==== Proof.Ple.Ref.lean ====
/- The reference's per-layer-embedding step, entry by entry. -/
module

public import proofs.«01_k».proof.Proof.Ple.Spec
public import proofs.«01_k».proof.Proof.Gen.PleReferenceIdeal.Run

@[expose] public section

set_option maxRecDepth 16384

noncomputable section

namespace Cert.Ple

open Cert.PleReferenceIdeal Cert.PleReferenceIdeal.Gen Cert.PleReferenceIdeal.Value Idealize.ShloMosaic Idealize.ShloMosaic.TcCoe

/-- The norm of the rows of an array. -/
def rmsRef (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The gate and the projection added, from the normed array `n`. -/
def midRef (h n : FVec Ideal S16384x1024 .f32) (p : FVec Ideal S16384x256 .f32) (wg : FVec Ideal S1024x1024 .f32)
    (wp : FVec Ideal S256x1024 .f32) : FVec Ideal S16384x1024 .f32 :=
  addf h (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none n wg))))) (Host.dotGeneral dot_S16384x256_S256x1024_S16384x1024_1_0_0_1_n_n none p wp))

theorem rmsRef_apply (x : FVec Ideal S16384x1024 .f32) (g : FVec Ideal S1024 .f32) (r : Fin 16384) (j : Fin 1024) :
    rmsRef x g (ix2 r j) = rms (fun k => x (ix2 r k)) (fun k => g (ix1 k)) j := by
  pointwise [rmsRef]
  rfl

theorem midRef_apply (h n : FVec Ideal S16384x1024 .f32) (p : FVec Ideal S16384x256 .f32) (wg : FVec Ideal S1024x1024 .f32)
    (wp : FVec Ideal S256x1024 .f32) (r : Fin 16384) (j : Fin 1024) :
    midRef h n p wg wp (ix2 r j) = h (ix2 r j) + Ideal.logistic (∑ k : Fin 1024, n (ix2 r k) * wg (ix2 k j)) * ∑ k : Fin 256, p (ix2 r k) * wp (ix2 k j) := by
  pointwise [midRef]
  rfl

theorem ref_eq (m : (ℓ : Loc nD τ sig) → Buf (Elt Ideal) ℓ) (c : Dev nD) :
    res_main_v35 m c = rmsRef (midRef (m ((c.tc : Thread nD τ).loc main_arg0)) (rmsRef (m ((c.tc : Thread nD τ).loc main_arg0)) (m ((c.tc : Thread nD τ).loc main_arg2)))
      (m ((c.tc : Thread nD τ).loc main_arg1)) (m ((c.tc : Thread nD τ).loc main_arg3)) (m ((c.tc : Thread nD τ).loc main_arg4))) (m ((c.tc : Thread nD τ).loc main_arg5)) := rfl

end Cert.Ple

end
-- ==== Proof.Ple.Claim.lean ====
/- The claims about the per-layer-embedding step: the reference runs and leaves its arguments, and the kernel's result is
   the reference's. -/
module

public import proofs.«01_k».proof.Defs
public import proofs.«01_k».proof.Proof.Ple.Kernel
public import proofs.«01_k».proof.Proof.Ple.Ref
public import Idealize.ShloMosaic.Lib.Quiescent

@[expose] public section

set_option maxRecDepth 16384

noncomputable section

namespace Cert.Ple

open Idealize.ShloMosaic Idealize.ShloMosaic.TcCoe Idealize.ShloMosaic.StableHlo Idealize.SL.Sem

/-- The reference's result array is the same function of the arguments. -/
theorem ref_all (h : FVec Ideal Cert.PleReferenceIdeal.S16384x1024 .f32) (p : FVec Ideal Cert.PleReferenceIdeal.S16384x256 .f32) (g : FVec Ideal Cert.PleReferenceIdeal.S1024 .f32) (wg : FVec Ideal Cert.PleReferenceIdeal.S1024x1024 .f32)
    (wp : FVec Ideal Cert.PleReferenceIdeal.S256x1024 .f32) (gf : FVec Ideal Cert.PleReferenceIdeal.S1024 .f32) :
    rmsRef (midRef h (rmsRef h g) p wg wp) gf = OutAll h p g wg wp gf := by
  funext i
  have hi : i = ix2 (i 0) (i 1) := funext fun a => by fin_cases a <;> rfl
  have e : ∀ (r : Fin 16384) (j : Fin 1024), rmsRef (midRef h (rmsRef h g) p wg wp) gf (ix2 r j) = OutAll h p g wg wp gf (ix2 r j) := by
    intro r j
    rw [rmsRef_apply]
    simp only [midRef_apply, rmsRef_apply]
    rfl
  exact (congrArg _ hi).trans ((e (i 0) (i 1)).trans (congrArg _ hi.symm))

/-- The reference runs and leaves its arguments. -/
theorem ref_frame : Cert.quiescent_PleReferenceIdeal := fun m g _ =>
  (θ_run _ _ _).mono (fun _ h => ⟨fun c => (h c).2, sem_eq_zero_of_no_sems (by decide) _⟩) (Cert.PleReferenceIdeal.Value.run m g)

/-- The kernel's result is the reference's. -/
theorem equal : Cert.algebraic_PleKernelIdeal_PleReferenceIdeal := by
  intro m g m' g' hpre hargs
  refine ⟨fun c => OutAll (m ((c.tc : Thread Cert.PleKernelIdeal.nD Cert.PleKernelIdeal.τ).loc Cert.PleKernelIdeal.main_arg0)) (m ((c.tc : Thread Cert.PleKernelIdeal.nD Cert.PleKernelIdeal.τ).loc Cert.PleKernelIdeal.main_arg1))
      (m ((c.tc : Thread Cert.PleKernelIdeal.nD Cert.PleKernelIdeal.τ).loc Cert.PleKernelIdeal.main_arg2)) (m ((c.tc : Thread Cert.PleKernelIdeal.nD Cert.PleKernelIdeal.τ).loc Cert.PleKernelIdeal.main_arg3))
      (m ((c.tc : Thread Cert.PleKernelIdeal.nD Cert.PleKernelIdeal.τ).loc Cert.PleKernelIdeal.main_arg4)) (m ((c.tc : Thread Cert.PleKernelIdeal.nD Cert.PleKernelIdeal.τ).loc Cert.PleKernelIdeal.main_arg5)),
    (θ_run _ _ _).mono (fun r h c => ⟨(h c).1.trans (final m c), (h c).2⟩) (Cert.PleKernelIdeal.Value.run_blocks m g),
    (θ_run _ _ _).mono (fun r h c => ⟨(h c).1.trans ?_, (h c).2⟩) (Cert.PleReferenceIdeal.Value.run m' g')⟩
  obtain ⟨e0, e1, e2, e3, e4, e5⟩ := hargs c
  refine (ref_eq m' c).trans ((ref_all _ _ _ _ _ _).trans ?_)
  rw [e0, e1, e2, e3, e4, e5]

end Cert.Ple

end
-- ==== Proof.Mix.Spec.lean ====
/- What one token's row becomes in the first call: its norm and projection to 2560 columns, the rotation of the queries'
   and keys' columns by the token's position, and the gated linear unit. -/
module

public import Idealize.ShloMosaic.Lib.Pointwise
public import Idealize.ShloMosaic.Lib.ValueIdx

@[expose] public section

noncomputable section

namespace Cert.Mix

open Idealize.ShloMosaic

/-- The root-mean-square norm of a row of 1024, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The projected row. -/
def proj (x g : Fin 1024 → EReal) (w : Fin 1024 → Fin 2560 → EReal) (j : Fin 2560) : EReal := ∑ k, rms x g k * w k j

/-- A row's entry at a column given as a number. -/
def col {n : ℕ} (z : Fin n → EReal) (j : ℕ) : EReal := if h : j < n then z ⟨j, h⟩ else 0

theorem col_of {n : ℕ} (z : Fin n → EReal) (j : ℕ) (i : Fin n) (h : j = i.val) : z i = col z j := by
  subst h
  unfold col
  rw [dif_pos i.isLt]

/-- The angle of pair `i` at position `p`. -/
def ang (p : EReal) (i : ℕ) : EReal :=
  p * Ideal.pow (Ideal.ofBits .f32 0x48F42400#32) (Ideal.div (-(Ideal.ofBits .f32 0x40000000#32 * (i : EReal))) (Ideal.ofBits .f32 0x41800000#32))

/-- A row with the first sixteen of every 64 columns rotated, pair by pair of columns eight apart. -/
def rot (z : ℕ → EReal) (p : EReal) (j : ℕ) : EReal :=
  if j % 64 < 8 then z j * Ideal.cos (ang p (j % 64)) - z (j + 8) * Ideal.sin (ang p (j % 64))
  else if j % 64 < 16 then z j * Ideal.cos (ang p (j % 64 - 8)) + z (j - 8) * Ideal.sin (ang p (j % 64 - 8))
  else z j

/-- The tables' frequency of lane `l`. -/
def freq (l : ℕ) : EReal :=
  if l % 64 < 16 then Ideal.pow (Ideal.ofBits .f32 0x48F42400#32)
    (Ideal.div (Ideal.ofBits .f32 0xC0000000#32 * ((l % 64 % 8 : ℕ) : EReal)) (Ideal.ofBits .f32 0x41800000#32)) else 0

theorem two_bits : Ideal.ofBits .f32 0xC0000000#32 = -Ideal.ofBits .f32 0x40000000#32 := by
  simp [Ideal.ofBits, Ideal.ieee]

/-- The rotation by lanes with the tables' cosines and sines is the rotation by pairs. -/
theorem lanes_rot (z : ℕ → EReal) (p : EReal) (o l : ℕ) (hl : l < 128) (ho : o % 128 = 0) :
    z (o + l) * Ideal.cos (p * freq l) + z (o + (l + 8) % 128) * (if l % 64 < 8 then 0 - Ideal.sin (p * freq l) else 0)
      + z (o + (l + 120) % 128) * (if 8 ≤ l % 64 ∧ l % 64 < 16 then Ideal.sin (p * freq l) else 0) = rot z p (o + l) := by
  have e : (o + l) % 64 = l % 64 := by omega
  have neg : ∀ a b : EReal, -(a * b) = -a * b := fun a b => (EReal.neg_mul a b).symm
  unfold rot
  rw [e]
  by_cases h : l % 64 < 8
  · have f : p * freq l = ang p (l % 64) := by
      unfold freq ang
      rw [if_pos (by omega), two_bits, neg, Nat.mod_eq_of_lt h]
    rw [if_pos h, if_pos h, if_neg (by omega), f, show o + (l + 8) % 128 = o + l + 8 by omega, mul_zero, add_zero, zero_sub, mul_neg, ← sub_eq_add_neg]
  · rw [if_neg h, if_neg h, mul_zero, add_zero]
    by_cases h' : l % 64 < 16
    · have f : p * freq l = ang p (l % 64 - 8) := by
        unfold freq ang
        rw [if_pos h', two_bits, neg, show l % 64 % 8 = l % 64 - 8 by omega]
      rw [if_pos h', if_pos ⟨by omega, h'⟩, f, show o + (l + 120) % 128 = o + l - 8 by omega]
    · have f : p * freq l = 0 := by
        unfold freq
        rw [if_neg h', mul_zero]
      have c : Ideal.cos 0 = 1 := by
        show ((Real.cos 0 : ℝ) : EReal) = 1
        rw [Real.cos_zero, EReal.coe_one]
      rw [if_neg h', if_neg (by omega), f, c, mul_one, mul_zero, add_zero]

end Cert.Mix

end
-- ==== Proof.Mix.Block.lean ====
/- One tile of the first call's kernel, entry by entry: the projected rows, the lanes' masks, and the rotation of a slab. -/
module

public import proofs.«01_k».proof.Proof.Mix.Spec
public import proofs.«01_k».proof.Proof.Gen.MixKernelIdeal.Skeleton

@[expose] public section

set_option maxRecDepth 16384

noncomputable section

namespace Cert.Mix

open Cert.MixKernelIdeal Cert.MixKernelIdeal.Gen Idealize.ShloMosaic Idealize.ShloMosaic.TcCoe

/-- A tile's rows divided by their root mean squares. -/
def unitTile (x : FVec Ideal S1024x1024 .f32) : FVec Ideal S1024x1024 .f32 :=
  mulf x (broadcastTo S1024x1024 (rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024)

/-- The tile's normed rows in the narrow format. -/
def normTile (x : FVec Ideal S1024x1024 .f32) (g : FVec Ideal S1x1024 .f32) : FVec Ideal S1024x1024 .bf16 :=
  truncf .bf16 (mulf (unitTile x) (broadcastTo S1024x1024 (shapeCast S1x1024 g shapeCasts_S1x1024_S1x1024) broadcasts_S1x1024_S1024x1024)) bitsLt_bf16_f32

/-- The projection of normed rows. -/
def projTile (n : FVec Ideal S1024x1024 .bf16) (w : FVec Ideal S1024x2560 .bf16) : FVec Ideal S1024x2560 .f32 :=
  matmul dot_S1024x1024_S1024x2560_S1024x2560_1_0_0_1_n_n none n (shapeCast S1024x2560 w shapeCasts_S1024x2560_S1024x2560) (constant S1024x2560 .f32 0x00000000#32)

theorem unitTile_apply (x : FVec Ideal S1024x1024 .f32) (r j : Fin 1024) :
    unitTile x (ix2 r j) = x (ix2 r j) * Ideal.rsqrt (Ideal.div (∑ k : Fin 1024, x (ix2 r k) * x (ix2 r k)) (Ideal.ofBits .f32 0x44800000#32) + Ideal.ofBits .f32 0x358637BD#32) := by
  pointwise [unitTile]

theorem normTile_apply (x : FVec Ideal S1024x1024 .f32) (g : FVec Ideal S1x1024 .f32) (r j : Fin 1024) :
    normTile x g (ix2 r j) = unitTile x (ix2 r j) * g (ix2 (0 : Fin 1) j) := by
  pointwise [normTile]

theorem projTile_apply (n : FVec Ideal S1024x1024 .bf16) (w : FVec Ideal S1024x2560 .bf16) (r : Fin 1024) (j : Fin 2560) :
    projTile n w (ix2 r j) = ∑ k : Fin 1024, n (ix2 r k) * w (ix2 k j) := by
  pointwise [projTile]

theorem flat_apply (x : FVec Ideal S1x1024x1024 .f32) (r j : Fin 1024) :
    (shapeCast S1024x1024 x shapeCasts_S1x1024x1024_S1024x1024 : FVec Ideal S1024x1024 .f32) (ix2 r j) = x (ix3 (0 : Fin 1) r j) := by
  pointwise

/-- An entry of the projected tile is the row's projection. -/
theorem z_apply (x : FVec Ideal S1x1024x1024 .f32) (g : FVec Ideal S1x1024 .f32) (w : FVec Ideal S1024x2560 .bf16) (r : Fin 1024) (j : Fin 2560) :
    (k0_pay5 x g w : FVec Ideal S1024x2560 .f32) (ix2 r j) = proj (fun k => x (ix3 (0 : Fin 1) r k)) (fun k => g (ix2 (0 : Fin 1) k)) (fun k l => w (ix2 k l)) j := by
  have e : (k0_pay5 x g w : FVec Ideal S1024x2560 .f32) = projTile (normTile (shapeCast S1024x1024 x shapeCasts_S1x1024x1024_S1024x1024) g) w := rfl
  rw [e, projTile_apply]
  simp only [normTile_apply, unitTile_apply, flat_apply]
  rfl

/-- The lanes' places within 64, as the kernel makes them. -/
def lanes : IVec S1x128 32 := k0_pay12 (Scalar.select (Scalar.cmpi .eq 64#32 0#32) 1#32 64#32) k0_pay8 k0_pay9 k0_pay10 k0_pay11

theorem lanes_apply (l : Fin 128) : lanes (ix2 (0 : Fin 1) l) = BitVec.ofNat 32 (l.val % 64) := by
  revert l
  decide +kernel

/-- The first factor of the turned columns. -/
def loTile (s : FVec Ideal S1024x128 .f32) : FVec Ideal S1024x128 .f32 :=
  k0_pay13 s (Scalar.select (Scalar.cmpi .eq 64#32 0#32) 1#32 64#32) k0_pay8 k0_pay9 k0_pay10 k0_pay11

/-- The second factor of the turned columns. -/
def hiTile (s : FVec Ideal S1024x128 .f32) : FVec Ideal S1024x128 .f32 :=
  k0_pay14 s (Scalar.select (Scalar.cmpi .eq 64#32 0#32) 1#32 64#32) k0_pay8 k0_pay9 k0_pay10 k0_pay11

theorem lo_bit : ∀ l : Fin 128, (cmpi .slt lanes (broadcast S1x128 8#32)) (ix2 (0 : Fin 1) l) = if l.val % 64 < 8 then 1#1 else 0#1 := by
  decide +kernel

theorem hi_bit : ∀ l : Fin 128, (andi (cmpi .sge lanes (broadcast S1x128 8#32)) (cmpi .slt lanes (broadcast S1x128 16#32))) (ix2 (0 : Fin 1) l)
    = if 8 ≤ l.val % 64 ∧ l.val % 64 < 16 then 1#1 else 0#1 := by
  decide +kernel

/-- A row of bits chooses between two tiles. -/
def pick (b : IVec S1x128 1) (x y : FVec Ideal S1024x128 .f32) : FVec Ideal S1024x128 .f32 :=
  select (broadcastTo S1024x128 (shapeCast S1x128 b shapeCasts_S1x128_S1x128) broadcasts_S1x128_S1024x128) x y

theorem pick_apply (b : IVec S1x128 1) (x y : FVec Ideal S1024x128 .f32) (r : Fin 1024) (l : Fin 128) :
    pick b x y (ix2 r l) = Scalar.select (b (ix2 (0 : Fin 1) l)) (x (ix2 r l)) (y (ix2 r l)) := by
  pointwise [pick]

theorem select_if (p : Prop) [Decidable p] (x y : EReal) : Scalar.select (if p then 1#1 else 0#1) x y = if p then x else y := by
  by_cases h : p
  · rw [if_pos h, if_pos h]
    rfl
  · rw [if_neg h, if_neg h]
    rfl

theorem loTile_apply (s : FVec Ideal S1024x128 .f32) (r : Fin 1024) (l : Fin 128) :
    loTile s (ix2 r l) = if l.val % 64 < 8 then 0 - s (ix2 r l) else 0 := by
  have e : loTile s = pick (cmpi .slt lanes (broadcast S1x128 8#32)) (subf (broadcast S1024x128 (Scalar.ofBits .f32 0x00000000#32)) s) (broadcast S1024x128 (Scalar.ofBits .f32 0x00000000#32)) := rfl
  have z : (broadcast S1024x128 (Scalar.ofBits .f32 0x00000000#32) : FVec Ideal S1024x128 .f32) (ix2 r l) = 0 := by
    pointwise
  have n : (subf (broadcast S1024x128 (Scalar.ofBits .f32 0x00000000#32)) s : FVec Ideal S1024x128 .f32) (ix2 r l) = 0 - s (ix2 r l) := by
    pointwise
  rw [e, pick_apply, lo_bit, z, n]
  exact select_if _ _ _

theorem hiTile_apply (s : FVec Ideal S1024x128 .f32) (r : Fin 1024) (l : Fin 128) :
    hiTile s (ix2 r l) = if 8 ≤ l.val % 64 ∧ l.val % 64 < 16 then s (ix2 r l) else 0 := by
  have e : hiTile s = pick (andi (cmpi .sge lanes (broadcast S1x128 8#32)) (cmpi .slt lanes (broadcast S1x128 16#32))) s (broadcast S1024x128 (Scalar.ofBits .f32 0x00000000#32)) := rfl
  have z : (broadcast S1024x128 (Scalar.ofBits .f32 0x00000000#32) : FVec Ideal S1024x128 .f32) (ix2 r l) = 0 := by
    pointwise
  rw [e, pick_apply, hi_bit, z]
  exact select_if _ _ _

/-- A slab of 128 columns rotated lane by lane. -/
def ropeTile (t c lo hi : FVec Ideal S1024x128 .f32) : FVec Ideal S1024x128 .f32 :=
  addf (addf (mulf t c) (mulf (dynamicRotate 1 120#32 none t rotates_S1024x128_d1) lo)) (mulf (dynamicRotate 1 8#32 none t rotates_S1024x128_d1) hi)

theorem ropeTile_apply (t c lo hi : FVec Ideal S1024x128 .f32) (r : Fin 1024) (l : Fin 128) :
    ropeTile t c lo hi (ix2 r l) = t (ix2 r l) * c (ix2 r l) + t (ix2 r ⟨(l.val + 8) % 128, Nat.mod_lt _ (by decide)⟩) * lo (ix2 r l)
      + t (ix2 r ⟨(l.val + 120) % 128, Nat.mod_lt _ (by decide)⟩) * hi (ix2 r l) := by
  pointwise [ropeTile]
  rfl

/-- A rotated slab's entry, the slab being the row's columns from `o` on and the tables those of position `p`. -/
theorem rope_rot (t c s : FVec Ideal S1024x128 .f32) (z : ℕ → EReal) (p : EReal) (o : ℕ) (ho : o % 128 = 0) (r : Fin 1024) (l : Fin 128)
    (ht : ∀ l : Fin 128, t (ix2 r l) = z (o + l.val)) (hc : c (ix2 r l) = Ideal.cos (p * freq l.val)) (hs : s (ix2 r l) = Ideal.sin (p * freq l.val)) :
    ropeTile t c (loTile s) (hiTile s) (ix2 r l) = rot z p (o + l.val) := by
  rw [ropeTile_apply, loTile_apply, hiTile_apply, ht, ht, ht, hc, hs]
  exact lanes_rot z p o l.val l.isLt ho

end Cert.Mix

end
-- ==== Proof.Mix.Kernel.lean ====
/- The first call's kernel: its four result arrays, entry by entry. -/
module

public import proofs.«01_k».proof.Proof.Mix.Block
public import proofs.«01_k».proof.Proof.Gen.MixKernelIdeal.Value
public import Idealize.ShloMosaic.Lib.Pipeline.ValueKit
public import Idealize.ShloMosaic.Lib.StableHlo.ReadAt

@[expose] public section

set_option maxRecDepth 16384

noncomputable section

namespace Cert.Mix

open Cert.MixKernelIdeal Cert.MixKernelIdeal.Gen Idealize.ShloMosaic Idealize.ShloMosaic.TcCoe

/-- A slab of the projected tile. -/
theorem cut_apply (o : ℕ) (h : S1024x2560.Slices ![0, o] S1024x128) (z : FVec Ideal S1024x2560 .f32) (r : Fin 1024) (l : Fin 128) (b : o + l.val < 2560) :
    (extractStridedSlice S1024x128 ![0, o] z h : FVec Ideal S1024x128 .f32) (ix2 r l) = z (ix2 r (⟨o + l.val, b⟩ : Fin 2560)) := by
  refine extractStridedSlice_apply _ _ _ _ _ fun a => ?_
  fin_cases a
  · show r.val = 0 + r.val
    omega
  · rfl

theorem lift_apply (t : FVec Ideal S1024x128 .f32) (r : Fin 1024) (l : Fin 128) :
    (shapeCast S1x1x1024x128 t shapeCasts_S1024x128_S1x1x1024x128 : FVec Ideal S1x1x1024x128 .f32) (ix4 (0 : Fin 1) (0 : Fin 1) r l) = t (ix2 r l) := by
  pointwise

theorem ix_slab (x : S1x1x1024x128.Idx) : x = ix4 (0 : Fin 1) (0 : Fin 1) (x 2) (x 3) := funext fun a => by
  fin_cases a
  · exact Fin.ext (Nat.lt_one_iff.mp (x 0).isLt)
  · exact Fin.ext (Nat.lt_one_iff.mp (x 1).isLt)
  · rfl
  · rfl

/-- What four slabs leave in a block: head `h`'s lane `l` holds column `128 h + l` of `g`. -/
def heads (g : Fin 1024 → ℕ → EReal) : Vec Ideal S1x4x1024x128 .f32 := fun y => g (y 2) (128 * (y 1).val + (y 3).val)

/-- The four stores of a block, each slab one head's. -/
theorem canon4 (g : Fin 1024 → ℕ → EReal) (p0 p1 p2 p3 : FVec Ideal S1x1x1024x128 .f32)
    (h0 : ∀ (r : Fin 1024) (l : Fin 128), p0 (ix4 (0 : Fin 1) (0 : Fin 1) r l) = g r (0 + l.val))
    (h1 : ∀ (r : Fin 1024) (l : Fin 128), p1 (ix4 (0 : Fin 1) (0 : Fin 1) r l) = g r (128 + l.val))
    (h2 : ∀ (r : Fin 1024) (l : Fin 128), p2 (ix4 (0 : Fin 1) (0 : Fin 1) r l) = g r (256 + l.val))
    (h3 : ∀ (r : Fin 1024) (l : Fin 128), p3 (ix4 (0 : Fin 1) (0 : Fin 1) r l) = g r (384 + l.val)) (y : S1x4x1024x128.Idx) :
    View.canon ([⟨r0_7, p3⟩, ⟨r0_6, p2⟩, ⟨r0_5, p1⟩, ⟨r0_4, p0⟩] : List (View.Piece (Elt Ideal) S1x4x1024x128 .f32)) y = heads g y := by
  have key : ∀ (h o : ℕ) (_ : o = 128 * h) (p : FVec Ideal S1x1x1024x128 .f32) (z : S1x4x1024x128.Idx) (x : S1x1x1024x128.Idx)
      (_ : ∀ (r : Fin 1024) (l : Fin 128), p (ix4 (0 : Fin 1) (0 : Fin 1) r l) = g r (o + l.val))
      (_ : (z 1).val = h + 1 * (x 1).val) (_ : (z 2).val = 0 + 1 * (x 2).val) (_ : (z 3).val = 0 + 1 * (x 3).val), p x = heads g z := by
    intro h o ho p z x hp e1 e2 e3
    have u : (x 1).val < 1 := (x 1).isLt
    refine (congrArg p (ix_slab x)).trans ((hp (x 2) (x 3)).trans ?_)
    have a : (x 2 : Fin 1024) = z 2 := Fin.ext (by rw [e2]; omega)
    have b : o + (x 3).val = 128 * (z 1).val + (z 3).val := by omega
    show g (x 2) (o + (x 3).val) = g (z 2) (128 * (z 1).val + (z 3).val)
    rw [b, a]
  refine View.canon_apply_of_pieces (heads g) _ ?_ y (cover0_5 _ _ _ _ y)
  intro pc hpc
  rcases List.mem_cons.mp hpc with rfl | hpc
  · exact fun x => key 3 384 rfl p3 _ x h3 rfl rfl rfl
  rcases List.mem_cons.mp hpc with rfl | hpc
  · exact fun x => key 2 256 rfl p2 _ x h2 rfl rfl rfl
  rcases List.mem_cons.mp hpc with rfl | hpc
  · exact fun x => key 1 128 rfl p1 _ x h1 rfl rfl rfl
  rcases List.mem_cons.mp hpc with rfl | hpc
  · exact fun x => key 0 0 rfl p0 _ x h0 rfl rfl rfl
  nomatch hpc

/-- One slab, rotated, as it is stored. -/
def slab (o : ℕ) (h : S1024x2560.Slices ![0, o] S1024x128) (z : FVec Ideal S1024x2560 .f32) (c s : FVec Ideal S1024x128 .f32) : FVec Ideal S1x1x1024x128 .f32 :=
  shapeCast S1x1x1024x128 (ropeTile (extractStridedSlice S1024x128 ![0, o] z h) c (loTile s) (hiTile s)) shapeCasts_S1024x128_S1x1x1024x128

/-- One slab as it is stored. -/
def plain (o : ℕ) (h : S1024x2560.Slices ![0, o] S1024x128) (z : FVec Ideal S1024x2560 .f32) : FVec Ideal S1x1x1024x128 .f32 :=
  shapeCast S1x1x1024x128 (extractStridedSlice S1024x128 ![0, o] z h) shapeCasts_S1024x128_S1x1x1024x128

theorem plain_apply (o : ℕ) (h : S1024x2560.Slices ![0, o] S1024x128) (ho : o + 128 ≤ 2560) (z : FVec Ideal S1024x2560 .f32) (r : Fin 1024) (l : Fin 128) :
    plain o h z (ix4 (0 : Fin 1) (0 : Fin 1) r l) = col (fun j : Fin 2560 => z (ix2 r j)) (o + l.val) := by
  have b : o + l.val < 2560 := by have := l.isLt; omega
  unfold plain
  rw [lift_apply, cut_apply o h z r l b]
  exact col_of (fun j : Fin 2560 => z (ix2 r j)) _ ⟨o + l.val, b⟩ rfl

theorem slab_apply (o : ℕ) (h : S1024x2560.Slices ![0, o] S1024x128) (ho : o + 128 ≤ 2560) (hm : o % 128 = 0) (z : FVec Ideal S1024x2560 .f32) (c s : FVec Ideal S1024x128 .f32)
    (p : Fin 1024 → EReal) (hc : ∀ (r : Fin 1024) (l : Fin 128), c (ix2 r l) = Ideal.cos (p r * freq l.val)) (hs : ∀ (r : Fin 1024) (l : Fin 128), s (ix2 r l) = Ideal.sin (p r * freq l.val))
    (r : Fin 1024) (l : Fin 128) :
    slab o h z c s (ix4 (0 : Fin 1) (0 : Fin 1) r l) = rot (col (fun j : Fin 2560 => z (ix2 r j))) (p r) (o + l.val) := by
  unfold slab
  rw [lift_apply]
  refine rope_rot _ _ _ _ (p r) o hm r l (fun l' => ?_) (hc r l) (hs r l)
  have b : o + l'.val < 2560 := by have := l'.isLt; omega
  rw [cut_apply o h z r l' b]
  exact col_of (fun j : Fin 2560 => z (ix2 r j)) _ ⟨o + l'.val, b⟩ rfl

/-- The gated linear unit of a projected row. -/
def gate (z : ℕ → EReal) (j : ℕ) : EReal := z (1536 + j) * Ideal.logistic (z (2048 + j))

theorem gate_apply (z : FVec Ideal S1024x2560 .f32) (r : Fin 1024) (j : Fin 512) :
    (k0_pay4 z : FVec Ideal S1x1024x512 .f32) (ix3 (0 : Fin 1) r j) = gate (col (fun j : Fin 2560 => z (ix2 r j))) j.val := by
  have b1 : 1536 + j.val < 2560 := by have := j.isLt; omega
  have b2 : 2048 + j.val < 2560 := by have := j.isLt; omega
  have e : (k0_pay4 z : FVec Ideal S1x1024x512 .f32) (ix3 (0 : Fin 1) r j) = z (ix2 r (⟨1536 + j.val, b1⟩ : Fin 2560)) * Ideal.logistic (z (ix2 r (⟨2048 + j.val, b2⟩ : Fin 2560))) := by
    pointwise [k0_pay4]
  rw [e]
  unfold gate
  rw [← col_of (fun j : Fin 2560 => z (ix2 r j)) _ ⟨1536 + j.val, b1⟩ rfl, ← col_of (fun j : Fin 2560 => z (ix2 r j)) _ ⟨2048 + j.val, b2⟩ rfl]

end Cert.Mix

end
-- ==== Proof.Mix.Tables.lean ====
/- The arrays the host prepares for the first call: the cosines and sines of the lanes' angles, the gain and the weights. -/
module

public import proofs.«01_k».proof.Proof.Mix.Block
public import proofs.«01_k».proof.Proof.Gen.MixKernelIdeal.Value
public import Idealize.ShloMosaic.Lib.Pipeline.ValueKit
public import Idealize.ShloMosaic.Lib.StableHlo.ReadAt

@[expose] public section

set_option maxRecDepth 16384
noncomputable section
namespace Cert.Mix
open Cert.MixKernelIdeal Cert.MixKernelIdeal.Gen Idealize.ShloMosaic Idealize.ShloMosaic.TcCoe

variable (m : (ℓ : Loc nD τ sig) → Buf (Elt Ideal) ℓ)

/-- The host's divisor. -/
def dvs (d : BitVec 32) : BitVec 32 := Scalar.select (IntOp.cmpi .eq d 0#32) 1#32 d
/-- The host's remainder, of the divisor's sign. -/
def rmd (a d : BitVec 32) : BitVec 32 :=
  Scalar.select (IntOp.andi (IntOp.cmpi .ne (IntOp.cmpi .slt (IntOp.remsi .host a (dvs d)) 0#32) (IntOp.cmpi .slt (dvs d) 0#32)) (IntOp.cmpi .ne (IntOp.remsi .host a (dvs d)) 0#32))
    (IntOp.addi (IntOp.remsi .host a (dvs d)) (dvs d)) (IntOp.remsi .host a (dvs d))

/-- A position as a number. -/
def pos (a : IVec S2x8192 32) (b : Fin 2) (s : Fin 8192) : EReal := FloatOps.sitofp (F := Ideal) .f32 (a (ix2 b s))

/-- The host's frequency of a lane. -/
def hfreq (l : ℕ) : EReal :=
  Scalar.select (IntOp.cmpi .slt (rmd (BitVec.ofNat 32 l) 64#32) 16#32) (Ideal.pow (Ideal.ofBits .f32 0x48F42400#32)
    (Ideal.div (Ideal.ofBits .f32 0xC0000000#32 * FloatOps.sitofp (F := Ideal) .f32 (rmd (rmd (BitVec.ofNat 32 l) 64#32) 8#32)) (Ideal.ofBits .f32 0x41800000#32))) (Ideal.ofBits .f32 0x00000000#32)

theorem word1 : ∀ l : Fin 128, IntOp.cmpi .slt (rmd (BitVec.ofNat 32 l.val) 64#32) 16#32 = if l.val % 64 < 16 then 1#1 else 0#1 := by
  decide +kernel

theorem word2 : ∀ l : Fin 128, (rmd (rmd (BitVec.ofNat 32 l.val) 64#32) 8#32).toInt = ((l.val % 64 % 8 : ℕ) : ℤ) := by
  decide +kernel

theorem hfreq_eq (l : Fin 128) : hfreq l.val = freq l.val := by
  have z : Ideal.ofBits .f32 0x00000000#32 = 0 := by simp [Ideal.ofBits, Ideal.ieee]
  have n : (FloatOps.sitofp (F := Ideal) .f32 (rmd (rmd (BitVec.ofNat 32 l.val) 64#32) 8#32) : EReal) = ((l.val % 64 % 8 : ℕ) : EReal) := by
    show (((rmd (rmd (BitVec.ofNat 32 l.val) 64#32) 8#32).toInt : ℝ) : EReal) = _
    rw [word2]
    push_cast
    rfl
  unfold hfreq freq
  rw [word1, z, n]
  exact select_if _ _ _

theorem V_cos (c : Dev nD) (b : Fin 2) (s : Fin 8192) (l : Fin 128) :
    V m c main_v19 (ix3 b s l) = Ideal.cos (pos (m ((c : Thread nD τ).loc main_arg3)) b s * freq l.val) := by
  rw [← hfreq_eq]
  unfold V
  simp only [hostOps0, hostOps0_1, hostOps0_2, hostOps0_3, hostOps0_4, hostOps0_5, hostOps0_6, List.flatten_cons, List.flatten_nil, List.append_nil, List.cons_append,
      List.nil_append]
  after_reads_at
  rfl

theorem V_sin (c : Dev nD) (b : Fin 2) (s : Fin 8192) (l : Fin 128) :
    V m c main_v20 (ix3 b s l) = Ideal.sin (pos (m ((c : Thread nD τ).loc main_arg3)) b s * freq l.val) := by
  rw [← hfreq_eq]
  unfold V
  simp only [hostOps0, hostOps0_1, hostOps0_2, hostOps0_3, hostOps0_4, hostOps0_5, hostOps0_6, List.flatten_cons, List.flatten_nil, List.append_nil, List.cons_append,
      List.nil_append]
  after_reads_at
  rfl
theorem V_g (c : Dev nD) (j : Fin 1024) : V m c main_v21 (ix2 (0 : Fin 1) j) = m ((c : Thread nD τ).loc main_arg1) (ix1 j) := by
  unfold V
  simp only [hostOps0, hostOps0_1, hostOps0_2, hostOps0_3, hostOps0_4, hostOps0_5, hostOps0_6, List.flatten_cons, List.flatten_nil, List.append_nil, List.cons_append,
      List.nil_append]
  after_reads_at

theorem V_w (c : Dev nD) (k : Fin 1024) (j : Fin 2560) : V m c main_v22 (ix2 k j) = m ((c : Thread nD τ).loc main_arg2) (ix2 k j) := by
  unfold V
  simp only [hostOps0, hostOps0_1, hostOps0_2, hostOps0_3, hostOps0_4, hostOps0_5, hostOps0_6, List.flatten_cons, List.flatten_nil, List.append_nil, List.cons_append,
      List.nil_append]
  after_reads_at

end Cert.Mix

end
-- ==== Proof.Mix.Final.lean ====
/- The first call's kernel: its four result arrays over the arguments. -/
module

public import proofs.«01_k».proof.Proof.Mix.Kernel
public import proofs.«01_k».proof.Proof.Mix.Tables

@[expose] public section

set_option maxRecDepth 16384

noncomputable section

namespace Cert.Mix

open Cert.MixKernelIdeal Cert.MixKernelIdeal.Gen Idealize.ShloMosaic Idealize.ShloMosaic.TcCoe

/-- The projected tile's row by column number. -/
def zrow (x0 : Vec Ideal S1x1024x1024 .f32) (x1 : Vec Ideal S1x1024 .f32) (x2 : Vec Ideal S1024x2560 .bf16) (r : Fin 1024) : ℕ → EReal :=
  col (fun j : Fin 2560 => (k0_pay5 x0 x1 x2 : FVec Ideal S1024x2560 .f32) (ix2 r j))

theorem tab_apply (x : FVec Ideal S1x1024x128 .f32) (r : Fin 1024) (l : Fin 128) : (k0_pay6 x : FVec Ideal S1024x128 .f32) (ix2 r l) = x (ix3 (0 : Fin 1) r l) := by
  pointwise [k0_pay6]

section Blocks

variable (x0 : Vec Ideal S1x1024x1024 .f32) (x1 : Vec Ideal S1x1024 .f32) (x2 : Vec Ideal S1024x2560 .bf16) (x3 x4 : Vec Ideal S1x1024x128 .f32)

theorem p27 : k0_pay27 x0 x1 x2 x3 x4 = k0_pay5 x0 x1 x2 := by
  unfold k0_pay27
  rw [View.ld_unit_lit, View.ld_unit_lit, View.ld_unit_lit] <;> decide
theorem p28 : k0_pay28 x0 x1 x2 x3 x4 = k0_pay6 x3 := by
  unfold k0_pay28
  rw [View.ld_unit_lit]
  decide
theorem p29 : k0_pay29 x0 x1 x2 x3 x4 = k0_pay6 x4 := by
  unfold k0_pay29
  rw [View.ld_unit_lit]
  · rfl
  · decide
theorem p34 : k0_pay34 x0 x1 x2 x3 x4 = loTile (k0_pay6 x4) := by
  unfold k0_pay34
  rw [p29]
  rfl
theorem p35 : k0_pay35 x0 x1 x2 x3 x4 = hiTile (k0_pay6 x4) := by
  unfold k0_pay35
  rw [p29]
  rfl

section Pieces

variable (z : FVec Ideal S1024x2560 .f32) (c s : FVec Ideal S1024x128 .f32)

theorem q0 : k0_pay15 z c s (Scalar.select (Scalar.cmpi .eq 64#32 0#32) 1#32 64#32) k0_pay8 k0_pay9 k0_pay10 k0_pay11 = slab 0 slices_S1024x2560_o0_0_S1024x128 z c s := rfl
theorem q1 : k0_pay19 z c (loTile s) (hiTile s) = slab 128 slices_S1024x2560_o0_128_S1024x128 z c s := rfl
theorem q2 : k0_pay23 c (loTile s) (hiTile s) (k0_pay22 z) = slab 256 slices_S1024x2560_o0_256_S1024x128 z c s := rfl
theorem q3 : k0_pay1 (k0_pay26 z c (loTile s) (hiTile s)) = slab 384 slices_S1024x2560_o0_384_S1024x128 z c s := rfl
theorem k0 : k0_pay17 (k0_pay16 z c s (Scalar.select (Scalar.cmpi .eq 64#32 0#32) 1#32 64#32) k0_pay8 k0_pay9 k0_pay10 k0_pay11) = slab 512 slices_S1024x2560_o0_512_S1024x128 z c s := rfl
theorem k1 : k0_pay20 z c (loTile s) (hiTile s) = slab 640 slices_S1024x2560_o0_640_S1024x128 z c s := rfl
theorem k2 : k0_pay24 z c (loTile s) (hiTile s) = slab 768 slices_S1024x2560_o0_768_S1024x128 z c s := rfl
theorem k3 : k0_pay2 z c (loTile s) (hiTile s) = slab 896 slices_S1024x2560_o0_896_S1024x128 z c s := rfl
theorem v0 : k0_pay18 z = plain 1024 slices_S1024x2560_o0_1024_S1024x128 z := rfl
theorem v1 : k0_pay21 z = plain 1152 slices_S1024x2560_o0_1152_S1024x128 z := rfl
theorem v2 : k0_pay25 z = plain 1280 slices_S1024x2560_o0_1280_S1024x128 z := rfl
theorem v3 : k0_pay3 z = plain 1408 slices_S1024x2560_o0_1408_S1024x128 z := rfl

end Pieces

theorem out5_eq : out0_5 x0 x1 x2 x3 x4 = View.canon ([
    ⟨r0_7, slab 384 slices_S1024x2560_o0_384_S1024x128 (k0_pay5 x0 x1 x2) (k0_pay6 x3) (k0_pay6 x4)⟩, ⟨r0_6, slab 256 slices_S1024x2560_o0_256_S1024x128 (k0_pay5 x0 x1 x2) (k0_pay6 x3) (k0_pay6 x4)⟩,
    ⟨r0_5, slab 128 slices_S1024x2560_o0_128_S1024x128 (k0_pay5 x0 x1 x2) (k0_pay6 x3) (k0_pay6 x4)⟩, ⟨r0_4, slab 0 slices_S1024x2560_o0_0_S1024x128 (k0_pay5 x0 x1 x2) (k0_pay6 x3) (k0_pay6 x4)⟩] : List (View.Piece (Elt Ideal) S1x4x1024x128 .f32)) := by
  unfold out0_5 k0_pay30 k0_pay31 k0_pay32 k0_pay33
  rw [p27, p28, p29, p34, p35, q0, q1, q2, q3]

theorem out6_eq : out0_6 x0 x1 x2 x3 x4 = View.canon ([
    ⟨r0_7, slab 896 slices_S1024x2560_o0_896_S1024x128 (k0_pay5 x0 x1 x2) (k0_pay6 x3) (k0_pay6 x4)⟩, ⟨r0_6, slab 768 slices_S1024x2560_o0_768_S1024x128 (k0_pay5 x0 x1 x2) (k0_pay6 x3) (k0_pay6 x4)⟩,
    ⟨r0_5, slab 640 slices_S1024x2560_o0_640_S1024x128 (k0_pay5 x0 x1 x2) (k0_pay6 x3) (k0_pay6 x4)⟩, ⟨r0_4, slab 512 slices_S1024x2560_o0_512_S1024x128 (k0_pay5 x0 x1 x2) (k0_pay6 x3) (k0_pay6 x4)⟩] : List (View.Piece (Elt Ideal) S1x4x1024x128 .f32)) := by
  unfold out0_6 k0_pay30 k0_pay31 k0_pay32 k0_pay33
  rw [p27, p28, p29, p34, p35, k0, k1, k2, k3]

theorem out7_eq : out0_7 x0 x1 x2 x3 x4 = View.canon ([
    ⟨r0_7, plain 1408 slices_S1024x2560_o0_1408_S1024x128 (k0_pay5 x0 x1 x2)⟩, ⟨r0_6, plain 1280 slices_S1024x2560_o0_1280_S1024x128 (k0_pay5 x0 x1 x2)⟩,
    ⟨r0_5, plain 1152 slices_S1024x2560_o0_1152_S1024x128 (k0_pay5 x0 x1 x2)⟩, ⟨r0_4, plain 1024 slices_S1024x2560_o0_1024_S1024x128 (k0_pay5 x0 x1 x2)⟩] : List (View.Piece (Elt Ideal) S1x4x1024x128 .f32)) := by
  unfold out0_7
  rw [p27, v0, v1, v2, v3]

theorem out8_eq : out0_8 x0 x1 x2 x3 x4 = (k0_pay4 (k0_pay5 x0 x1 x2) : FVec Ideal S1x1024x512 .f32) := by
  frame_out
  rw [p27]

variable (p : Fin 1024 → EReal) (hc : ∀ (r : Fin 1024) (l : Fin 128), (x3 : FVec Ideal S1x1024x128 .f32) (ix3 (0 : Fin 1) r l) = Ideal.cos (p r * freq l.val))
  (hs : ∀ (r : Fin 1024) (l : Fin 128), (x4 : FVec Ideal S1x1024x128 .f32) (ix3 (0 : Fin 1) r l) = Ideal.sin (p r * freq l.val))

include hc hs in
theorem slab_block (o : ℕ) (h : S1024x2560.Slices ![0, o] S1024x128) (ho : o + 128 ≤ 2560) (hm : o % 128 = 0) (b d : ℕ) (e : o = b + d) (r : Fin 1024) (l : Fin 128) :
    slab o h (k0_pay5 x0 x1 x2) (k0_pay6 x3) (k0_pay6 x4) (ix4 (0 : Fin 1) (0 : Fin 1) r l) = rot (zrow x0 x1 x2 r) (p r) (b + (d + l.val)) :=
  (slab_apply o h ho hm _ _ _ p (fun r l => (tab_apply x3 r l).trans (hc r l)) (fun r l => (tab_apply x4 r l).trans (hs r l)) r l).trans
    (congrArg (rot (zrow x0 x1 x2 r) (p r)) (by omega))

theorem plain_block (o : ℕ) (h : S1024x2560.Slices ![0, o] S1024x128) (ho : o + 128 ≤ 2560) (b d : ℕ) (e : o = b + d) (r : Fin 1024) (l : Fin 128) :
    plain o h (k0_pay5 x0 x1 x2) (ix4 (0 : Fin 1) (0 : Fin 1) r l) = zrow x0 x1 x2 r (b + (d + l.val)) :=
  (plain_apply o h ho _ r l).trans (congrArg (zrow x0 x1 x2 r) (by omega))

include hc hs in
theorem q_block (y : S1x4x1024x128.Idx) : out0_5 x0 x1 x2 x3 x4 y = heads (fun r j => rot (zrow x0 x1 x2 r) (p r) (0 + j)) y := by
  rw [out5_eq]
  exact canon4 _ _ _ _ _ (slab_block x0 x1 x2 x3 x4 p hc hs 0 _ (by omega) rfl 0 0 rfl) (slab_block x0 x1 x2 x3 x4 p hc hs 128 _ (by omega) rfl 0 128 rfl)
    (slab_block x0 x1 x2 x3 x4 p hc hs 256 _ (by omega) rfl 0 256 rfl) (slab_block x0 x1 x2 x3 x4 p hc hs 384 _ (by omega) rfl 0 384 rfl) y

include hc hs in
theorem k_block (y : S1x4x1024x128.Idx) : out0_6 x0 x1 x2 x3 x4 y = heads (fun r j => rot (zrow x0 x1 x2 r) (p r) (512 + j)) y := by
  rw [out6_eq]
  exact canon4 _ _ _ _ _ (slab_block x0 x1 x2 x3 x4 p hc hs 512 _ (by omega) rfl 512 0 rfl) (slab_block x0 x1 x2 x3 x4 p hc hs 640 _ (by omega) rfl 512 128 rfl)
    (slab_block x0 x1 x2 x3 x4 p hc hs 768 _ (by omega) rfl 512 256 rfl) (slab_block x0 x1 x2 x3 x4 p hc hs 896 _ (by omega) rfl 512 384 rfl) y

theorem v_block (y : S1x4x1024x128.Idx) : out0_7 x0 x1 x2 x3 x4 y = heads (fun r j => zrow x0 x1 x2 r (1024 + j)) y := by
  rw [out7_eq]
  exact canon4 _ _ _ _ _ (plain_block x0 x1 x2 1024 _ (by omega) 1024 0 rfl) (plain_block x0 x1 x2 1152 _ (by omega) 1024 128 rfl)
    (plain_block x0 x1 x2 1280 _ (by omega) 1024 256 rfl) (plain_block x0 x1 x2 1408 _ (by omega) 1024 384 rfl) y

end Blocks

variable (m : (ℓ : Loc nD τ sig) → Buf (Elt Ideal) ℓ)

theorem idx0 (t : Fin cfg0.N) : win0_0.index t = ![(grid0.coords t 0).val, (grid0.coords t 1).val, 0] :=
  (by decide +kernel : ∀ t : Fin grid0.N, win0_0.index t = ![(grid0.coords t 0).val, (grid0.coords t 1).val, 0]) t
theorem idx1 (t : Fin cfg0.N) : win0_1.index t = ![0, 0] := (by decide +kernel : ∀ t : Fin grid0.N, win0_1.index t = ![0, 0]) t
theorem idx2 (t : Fin cfg0.N) : win0_2.index t = ![0, 0] := (by decide +kernel : ∀ t : Fin grid0.N, win0_2.index t = ![0, 0]) t
theorem idx3 (t : Fin cfg0.N) : win0_3.index t = ![(grid0.coords t 0).val, (grid0.coords t 1).val, 0] :=
  (by decide +kernel : ∀ t : Fin grid0.N, win0_3.index t = ![(grid0.coords t 0).val, (grid0.coords t 1).val, 0]) t
theorem idx4 (t : Fin cfg0.N) : win0_4.index t = ![(grid0.coords t 0).val, (grid0.coords t 1).val, 0] :=
  (by decide +kernel : ∀ t : Fin grid0.N, win0_4.index t = ![(grid0.coords t 0).val, (grid0.coords t 1).val, 0]) t
theorem idx5 (t : Fin cfg0.N) : win0_5.index t = ![(grid0.coords t 0).val, 0, (grid0.coords t 1).val, 0] :=
  (by decide +kernel : ∀ t : Fin grid0.N, win0_5.index t = ![(grid0.coords t 0).val, 0, (grid0.coords t 1).val, 0]) t
theorem idx6 (t : Fin cfg0.N) : win0_6.index t = ![(grid0.coords t 0).val, 0, (grid0.coords t 1).val, 0] :=
  (by decide +kernel : ∀ t : Fin grid0.N, win0_6.index t = ![(grid0.coords t 0).val, 0, (grid0.coords t 1).val, 0]) t
theorem idx7 (t : Fin cfg0.N) : win0_7.index t = ![(grid0.coords t 0).val, 0, (grid0.coords t 1).val, 0] :=
  (by decide +kernel : ∀ t : Fin grid0.N, win0_7.index t = ![(grid0.coords t 0).val, 0, (grid0.coords t 1).val, 0]) t
theorem idx8 (t : Fin cfg0.N) : win0_8.index t = ![(grid0.coords t 0).val, (grid0.coords t 1).val, 0] :=
  (by decide +kernel : ∀ t : Fin grid0.N, win0_8.index t = ![(grid0.coords t 0).val, (grid0.coords t 1).val, 0]) t

/-- The batch entry and the token of a row of the tile. -/
def batAt (t : Fin cfg0.N) : Fin 2 := ⟨(grid0.coords t 0).val, (grid0.coords t 0).isLt⟩
def tokAt (t : Fin cfg0.N) (ρ : Fin 1024) : Fin 8192 :=
  ⟨1024 * (grid0.coords t 1).val + ρ.val, by have h : (grid0.coords t 1).val < 8 := (grid0.coords t 1).isLt; omega⟩

theorem blk0 (c : Dev nD) (t : Fin cfg0.N) (ρ k : Fin 1024) :
    (iblk m c 0 t : FVec Ideal S1x1024x1024 .f32) (ix3 (0 : Fin 1) ρ k) = m ((c : Thread nD τ).loc main_arg0) (ix3 (batAt t) (tokAt t ρ) k) := by
  unfold batAt tokAt
  blk_simp [iblk]
  rw [V_main_arg0]
  congr 1
  blk_ext [idx0 t]
theorem blk1 (c : Dev nD) (t : Fin cfg0.N) (k : Fin 1024) :
    (iblk m c 1 t : FVec Ideal S1x1024 .f32) (ix2 (0 : Fin 1) k) = m ((c : Thread nD τ).loc main_arg1) (ix1 k) := by
  blk_simp [iblk]
  refine Eq.trans ?_ (V_g m c k)
  congr 1
  blk_ext [idx1 t]
theorem blk2 (c : Dev nD) (t : Fin cfg0.N) (k : Fin 1024) (j : Fin 2560) :
    (iblk m c 2 t : FVec Ideal S1024x2560 .bf16) (ix2 k j) = m ((c : Thread nD τ).loc main_arg2) (ix2 k j) := by
  blk_simp [iblk]
  refine Eq.trans ?_ (V_w m c k j)
  congr 1
  blk_ext [idx2 t]
theorem blk3 (c : Dev nD) (t : Fin cfg0.N) (ρ : Fin 1024) (l : Fin 128) :
    (iblk m c 3 t : FVec Ideal S1x1024x128 .f32) (ix3 (0 : Fin 1) ρ l) = Ideal.cos (pos (m ((c : Thread nD τ).loc main_arg3)) (batAt t) (tokAt t ρ) * freq l.val) := by
  refine Eq.trans ?_ (V_cos m c (batAt t) (tokAt t ρ) l)
  unfold batAt tokAt
  blk_simp [iblk]
  congr 1
  blk_ext [idx3 t]
theorem blk4 (c : Dev nD) (t : Fin cfg0.N) (ρ : Fin 1024) (l : Fin 128) :
    (iblk m c 4 t : FVec Ideal S1x1024x128 .f32) (ix3 (0 : Fin 1) ρ l) = Ideal.sin (pos (m ((c : Thread nD τ).loc main_arg3)) (batAt t) (tokAt t ρ) * freq l.val) := by
  refine Eq.trans ?_ (V_sin m c (batAt t) (tokAt t ρ) l)
  unfold batAt tokAt
  blk_simp [iblk]
  congr 1
  blk_ext [idx4 t]

section Outs

variable (x : FVec Ideal S2x8192x1024 .f32) (g : FVec Ideal S1024 .f32) (w : FVec Ideal S1024x2560 .f32) (a : IVec S2x8192 32)

/-- A token's projected row by column number. -/
def zall (b : Fin 2) (s : Fin 8192) : ℕ → EReal := col (proj (fun k => x (ix3 b s k)) (fun k => g (ix1 k)) (fun k l => w (ix2 k l)))

/-- The rotated columns from `o` on, in slabs of 128. -/
def OutR (o : ℕ) : FVec Ideal S2x4x8192x128 .f32 := fun i => rot (zall x g w (i 0) (i 2)) (pos a (i 0) (i 2)) (o + (128 * (i 1).val + (i 3).val))

/-- The values' columns in slabs of 128. -/
def OutV : FVec Ideal S2x4x8192x128 .f32 := fun i => zall x g w (i 0) (i 2) (1024 + (128 * (i 1).val + (i 3).val))

/-- The gated linear unit. -/
def OutG : FVec Ideal S2x8192x512 .f32 := fun i => gate (zall x g w (i 0) (i 1)) (i 2).val

end Outs

theorem zrow_at (c : Dev nD) (t : Fin cfg0.N) (ρ : Fin 1024) :
    zrow (iblk m c 0 t) (iblk m c 1 t) (iblk m c 2 t) ρ = zall (m ((c : Thread nD τ).loc main_arg0)) (m ((c : Thread nD τ).loc main_arg1)) (m ((c : Thread nD τ).loc main_arg2)) (batAt t) (tokAt t ρ) := by
  unfold zrow zall
  refine congrArg col (funext fun j => (z_apply _ _ _ ρ j).trans ?_)
  simp only [blk0, blk1, blk2]

/-- The rotated queries. -/
theorem final5 (c : Dev nD) :
    (dats m 0 c).arrAt 5 cfg0.N = OutR (m ((c : Thread nD τ).loc main_arg0)) (m ((c : Thread nD τ).loc main_arg1)) (m ((c : Thread nD τ).loc main_arg2)) (m ((c : Thread nD τ).loc main_arg3)) 0 := by
  refine (dats m 0 c).arrAt_eq_of_covers 5 _ (by decide +kernel) fun t hf y => ?_
  blk_simp
  rw [after0_5]
  refine (q_block _ _ _ _ _ (fun ρ => pos (m ((c : Thread nD τ).loc main_arg3)) (batAt t) (tokAt t ρ)) (blk3 m c t) (blk4 m c t) y).trans ?_
  simp only [zrow_at]
  refine Eq.trans (b := OutR (m ((c : Thread nD τ).loc main_arg0)) (m ((c : Thread nD τ).loc main_arg1)) (m ((c : Thread nD τ).loc main_arg2)) (m ((c : Thread nD τ).loc main_arg3)) 0 (ix4 (batAt t) (y 1) (tokAt t (y 2)) (y 3))) rfl (congrArg _ ?_)
  unfold batAt tokAt
  blk_ext [idx5 t]

/-- The rotated keys. -/
theorem final6 (c : Dev nD) :
    (dats m 0 c).arrAt 6 cfg0.N = OutR (m ((c : Thread nD τ).loc main_arg0)) (m ((c : Thread nD τ).loc main_arg1)) (m ((c : Thread nD τ).loc main_arg2)) (m ((c : Thread nD τ).loc main_arg3)) 512 := by
  refine (dats m 0 c).arrAt_eq_of_covers 6 _ (by decide +kernel) fun t hf y => ?_
  blk_simp
  rw [after0_6]
  refine (k_block _ _ _ _ _ (fun ρ => pos (m ((c : Thread nD τ).loc main_arg3)) (batAt t) (tokAt t ρ)) (blk3 m c t) (blk4 m c t) y).trans ?_
  simp only [zrow_at]
  refine Eq.trans (b := OutR (m ((c : Thread nD τ).loc main_arg0)) (m ((c : Thread nD τ).loc main_arg1)) (m ((c : Thread nD τ).loc main_arg2)) (m ((c : Thread nD τ).loc main_arg3)) 512 (ix4 (batAt t) (y 1) (tokAt t (y 2)) (y 3))) rfl (congrArg _ ?_)
  unfold batAt tokAt
  blk_ext [idx6 t]

/-- The values. -/
theorem final7 (c : Dev nD) :
    (dats m 0 c).arrAt 7 cfg0.N = OutV (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  refine (v_block _ _ _ _ _ y).trans ?_
  simp only [zrow_at]
  refine Eq.trans (b := OutV (m ((c : Thread nD τ).loc main_arg0)) (m ((c : Thread nD τ).loc main_arg1)) (m ((c : Thread nD τ).loc main_arg2)) (ix4 (batAt t) (y 1) (tokAt t (y 2)) (y 3))) rfl (congrArg _ ?_)
  unfold batAt tokAt
  blk_ext [idx7 t]

theorem gate_at (c : Dev nD) (t : Fin cfg0.N) (ρ : Fin 1024) (j : Fin 512) :
    (k0_pay4 (k0_pay5 (iblk m c 0 t) (iblk m c 1 t) (iblk m c 2 t)) : FVec Ideal S1x1024x512 .f32) (ix3 (0 : Fin 1) ρ j) = OutG (m ((c : Thread nD τ).loc main_arg0)) (m ((c : Thread nD τ).loc main_arg1)) (m ((c : Thread nD τ).loc main_arg2)) (ix3 (batAt t) (tokAt t ρ) j) :=
  (gate_apply _ ρ j).trans (congrArg (fun z => gate z j.val) (zrow_at m c t ρ))

/-- The gated linear unit. -/
theorem final8 (c : Dev nD) : (dats m 0 c).arrAt 8 cfg0.N = OutG (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8, out8_eq]
  have hy : y = ix3 (0 : Fin 1) (y 1) (y 2) := funext fun a => by
    fin_cases a
    · exact Fin.ext (Nat.lt_one_iff.mp (y 0).isLt)
    · rfl
    · rfl
  refine (congrArg _ hy).trans ((gate_at m c t (y 1) (y 2)).trans (congrArg _ ?_))
  unfold batAt tokAt
  blk_ext [idx8 t]

end Cert.Mix

end
-- ==== Proof.Mix.Ref.lean ====
/- The reference's first call, entry by entry. -/
module

public import proofs.«01_k».proof.Proof.Mix.Spec
public import proofs.«01_k».proof.Proof.Gen.MixReferenceIdeal.Run

@[expose] public section

set_option maxRecDepth 16384

noncomputable section

namespace Cert.Mix

open Cert.MixReferenceIdeal Cert.MixReferenceIdeal.Gen Cert.MixReferenceIdeal.Value Idealize.ShloMosaic Idealize.ShloMosaic.TcCoe

/-- The norm of the rows of an array. -/
def rmsRef (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The projection. -/
def projRef (n : FVec Ideal S2x8192x1024 .f32) (w : FVec Ideal S1024x2560 .f32) : FVec Ideal S2x8192x2560 .f32 :=
  Host.dotGeneral dot_S2x8192x1024_S1024x2560_S2x8192x2560_2_0_01_1_n_n none n w

/-- The angles. -/
def angRef (p : IVec S2x8192 32) : FVec Ideal S2x8192x8 .f32 :=
  mulf (broadcastInDim S2x8192x8 ![0, 1, 2] bcast_S2x8192x1_S2x8192x8_0_1_2 (broadcastInDim S2x8192x1 ![0, 1] bcast_S2x8192_S2x8192x1_0_1 (sitofp .f32 p))) (broadcastInDim S2x8192x8 ![0, 1, 2] bcast_S1x1x8_S2x8192x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- One column of factors for all heads. -/
def factor (c : FVec Ideal S2x8192x8 .f32) : FVec Ideal S2x8192x8x8 .f32 :=
  broadcastInDim S2x8192x8x8 ![0, 1, 2, 3] bcast_S2x8192x1x8_S2x8192x8x8_0_1_2_3 (broadcastInDim S2x8192x1x8 ![0, 1, 3] bcast_S2x8192x8_S2x8192x1x8_0_1_3 c)

/-- The first and the second eight lanes of the heads. -/
def lo8 (t : FVec Ideal S2x8192x8x64 .f32) : FVec Ideal S2x8192x8x8 .f32 :=
  extractStridedSlice S2x8192x8x8 ![0, 0, 0, 0] (extractStridedSlice S2x8192x8x16 ![0, 0, 0, 0] t slices_S2x8192x8x64_S2x8192x8x16_0_0_0_0) slices_S2x8192x8x16_S2x8192x8x8_0_0_0_0
def hi8 (t : FVec Ideal S2x8192x8x64 .f32) : FVec Ideal S2x8192x8x8 .f32 :=
  extractStridedSlice S2x8192x8x8 ![0, 0, 0, 8] (extractStridedSlice S2x8192x8x16 ![0, 0, 0, 0] t slices_S2x8192x8x64_S2x8192x8x16_0_0_0_0) slices_S2x8192x8x16_S2x8192x8x8_0_0_0_8

/-- The heads rotated. -/
def ropeRef (t : FVec Ideal S2x8192x8x64 .f32) (a : FVec Ideal S2x8192x8 .f32) : FVec Ideal S2x8192x8x64 .f32 :=
  concatenate S2x8192x8x64 3 [⟨S2x8192x8x16, (concatenate S2x8192x8x16 3 [⟨S2x8192x8x8, (subf (mulf (lo8 t) (factor (Host.cos a))) (mulf (hi8 t) (factor (Host.sin a))))⟩, ⟨S2x8192x8x8, (addf (mulf (hi8 t) (factor (Host.cos a))) (mulf (lo8 t) (factor (Host.sin a))))⟩] concatenates_S2x8192x8x8_S2x8192x8x8_S2x8192x8x16_d3)⟩, ⟨S2x8192x8x48, (extractStridedSlice S2x8192x8x48 ![0, 0, 0, 16] t slices_S2x8192x8x64_S2x8192x8x48_0_0_0_16)⟩] concatenates_S2x8192x8x16_S2x8192x8x48_S2x8192x8x64_d3

/-- The heads' lanes in slabs of 128. -/
def slabsRef (t : FVec Ideal S2x8192x8x64 .f32) : FVec Ideal S2x4x8192x128 .f32 :=
  transpose S2x4x8192x128 [0, 2, 1, 3] (shapeCast S2x8192x4x128 t shapeCasts_S2x8192x8x64_S2x8192x4x128) transposes_S2x8192x4x128_S2x4x8192x128_0_2_1_3

/-- Columns of the projection as heads. -/
def headsRef (o : ℕ) (h : S2x8192x2560.Slices ![0, 0, o] S2x8192x512) (z : FVec Ideal S2x8192x2560 .f32) : FVec Ideal S2x8192x8x64 .f32 :=
  shapeCast S2x8192x8x64 (extractStridedSlice S2x8192x512 ![0, 0, o] z h) shapeCasts_S2x8192x512_S2x8192x8x64

/-- The gated linear unit. -/
def gluRef (z : FVec Ideal S2x8192x2560 .f32) : FVec Ideal S2x8192x512 .f32 :=
  mulf (extractStridedSlice S2x8192x512 ![0, 0, 1536] z slices_S2x8192x2560_S2x8192x512_0_0_1536) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (extractStridedSlice S2x8192x512 ![0, 0, 2048] z slices_S2x8192x2560_S2x8192x512_0_0_2048)))))

theorem rmsRef_apply (x : FVec Ideal S2x8192x1024 .f32) (g : FVec Ideal S1024 .f32) (b : Fin 2) (s : Fin 8192) (j : Fin 1024) :
    rmsRef x g (ix3 b s j) = rms (fun k => x (ix3 b s k)) (fun k => g (ix1 k)) j := by
  pointwise [rmsRef]
  rfl

theorem projRef_apply (n : FVec Ideal S2x8192x1024 .f32) (w : FVec Ideal S1024x2560 .f32) (b : Fin 2) (s : Fin 8192) (j : Fin 2560) :
    projRef n w (ix3 b s j) = ∑ k : Fin 1024, n (ix3 b s k) * w (ix2 k j) := by
  pointwise [projRef]

theorem z_ref (x : FVec Ideal S2x8192x1024 .f32) (g : FVec Ideal S1024 .f32) (w : FVec Ideal S1024x2560 .f32) (b : Fin 2) (s : Fin 8192) (j : Fin 2560) :
    projRef (rmsRef x g) w (ix3 b s j) = proj (fun k => x (ix3 b s k)) (fun k => g (ix1 k)) (fun k l => w (ix2 k l)) j := by
  rw [projRef_apply]
  simp only [rmsRef_apply]
  rfl

theorem angRef_apply (p : IVec S2x8192 32) (b : Fin 2) (s : Fin 8192) (i : Fin 8) :
    angRef p (ix3 b s i) = ang (FloatOps.sitofp (F := Ideal) .f32 (p (ix2 b s))) i.val := by
  have n : ∀ i : Fin 8, (BitVec.ofNat 32 i.val).toInt = (i.val : ℤ) := by decide
  have e : (FloatOps.sitofp (F := Ideal) .f32 (BitVec.ofNat 32 i.val) : EReal) = (i.val : EReal) := by
    show (((BitVec.ofNat 32 i.val).toInt : ℝ) : EReal) = _
    rw [n]
    push_cast
    rfl
  unfold ang
  rw [← e]
  pointwise [angRef]

theorem factor_apply (c : FVec Ideal S2x8192x8 .f32) (b : Fin 2) (s : Fin 8192) (h i : Fin 8) : factor c (ix4 b s h i) = c (ix3 b s i) := by
  pointwise [factor]

theorem lo8_apply (t : FVec Ideal S2x8192x8x64 .f32) (b : Fin 2) (s : Fin 8192) (h i : Fin 8) : lo8 t (ix4 b s h i) = t (ix4 b s h (⟨i.val, by omega⟩ : Fin 64)) := by
  pointwise [lo8]

theorem hi8_apply (t : FVec Ideal S2x8192x8x64 .f32) (b : Fin 2) (s : Fin 8192) (h i : Fin 8) : hi8 t (ix4 b s h i) = t (ix4 b s h (⟨8 + i.val, by omega⟩ : Fin 64)) := by
  pointwise [hi8]

theorem headsRef_apply (o : ℕ) (hs : S2x8192x2560.Slices ![0, 0, o] S2x8192x512) (z : FVec Ideal S2x8192x2560 .f32) (b : Fin 2) (s : Fin 8192) (h : Fin 8) (l : Fin 64)
    (e : o + 512 ≤ 2560) : headsRef o hs z (ix4 b s h l) = z (ix3 b s (⟨o + (64 * h.val + l.val), by omega⟩ : Fin 2560)) := by
  have f : ∀ y : FVec Ideal S2x8192x512 .f32, (shapeCast S2x8192x8x64 y shapeCasts_S2x8192x512_S2x8192x8x64 : FVec Ideal S2x8192x8x64 .f32) (ix4 b s h l) = y (ix3 b s (⟨64 * h.val + l.val, by omega⟩ : Fin 512)) := by
    intro y
    pointwise
    exact congrArg y (congrArg (ix3 b s) (Fin.ext (by show h.val * 64 + l.val = 64 * h.val + l.val; omega)))
  unfold headsRef
  rw [f]
  refine extractStridedSlice_apply _ _ _ _ _ fun a => ?_
  fin_cases a
  · show b.val = 0 + b.val
    omega
  · show s.val = 0 + s.val
    omega
  · rfl

theorem slabsRef_apply (t : FVec Ideal S2x8192x8x64 .f32) (b : Fin 2) (s : Fin 8192) (h : Fin 4) (l : Fin 128) :
    slabsRef t (ix4 b h s l) = t (ix4 b s (⟨2 * h.val + l.val / 64, by omega⟩ : Fin 8) (⟨l.val % 64, by omega⟩ : Fin 64)) := by
  pointwise [slabsRef]
  exact congrArg t (congrArg (fun k => ix4 b s k (⟨l.val % 64, by omega⟩ : Fin 64)) (Fin.ext (by show h.val * 2 + l.val / 64 = 2 * h.val + l.val / 64; omega)))

theorem gluRef_apply (z : FVec Ideal S2x8192x2560 .f32) (b : Fin 2) (s : Fin 8192) (j : Fin 512) :
    gluRef z (ix3 b s j) = z (ix3 b s (⟨1536 + j.val, by omega⟩ : Fin 2560)) * Ideal.logistic (z (ix3 b s (⟨2048 + j.val, by omega⟩ : Fin 2560))) := by
  pointwise [gluRef]
  rfl

theorem ropeRef_apply (t : FVec Ideal S2x8192x8x64 .f32) (a : FVec Ideal S2x8192x8 .f32) (b : Fin 2) (s : Fin 8192) (h : Fin 8) (l : Fin 64) :
    ropeRef t a (ix4 b s h l) = if c : l.val < 8 then
        t (ix4 b s h l) * Ideal.cos (a (ix3 b s (⟨l.val, c⟩ : Fin 8))) - t (ix4 b s h (⟨8 + l.val, by omega⟩ : Fin 64)) * Ideal.sin (a (ix3 b s (⟨l.val, c⟩ : Fin 8)))
      else if d : l.val < 16 then
        t (ix4 b s h l) * Ideal.cos (a (ix3 b s (⟨l.val - 8, by omega⟩ : Fin 8))) + t (ix4 b s h (⟨l.val - 8, by omega⟩ : Fin 64)) * Ideal.sin (a (ix3 b s (⟨l.val - 8, by omega⟩ : Fin 8)))
      else t (ix4 b s h l) := by
  pointwise [ropeRef, lo8, hi8, factor]
  have u : ∀ (k : ℕ) (hk : k < 64), k = l.val → t (ix4 b s h (⟨k, hk⟩ : Fin 64)) = t (ix4 b s h l) := fun k hk e =>
    congrArg (fun k => t (ix4 b s h k)) (Fin.ext e)
  by_cases c : l.val < 8
  · have d : l.val < 16 := by omega
    simp only [c, d, ↓reduceDIte]
  · by_cases d : l.val < 16
    · simp only [c, d, ↓reduceDIte]
      rw [u (8 + (l.val - 8)) (by omega) (by omega)]
    · simp only [c, d, ↓reduceDIte]
      exact u _ _ (by omega)

/-- A slab of rotated heads whose lanes are a row's columns is the row rotated by pairs of columns. -/
theorem rot_heads (t : FVec Ideal S2x8192x8x64 .f32) (a : FVec Ideal S2x8192x8 .f32) (b : Fin 2) (s : Fin 8192) (z : ℕ → EReal) (p : EReal) (o : ℕ) (eo : o % 64 = 0)
    (ht : ∀ (h : Fin 8) (l : Fin 64), t (ix4 b s h l) = z (o + (64 * h.val + l.val))) (ha : ∀ i : Fin 8, a (ix3 b s i) = ang p i.val) (h : Fin 4) (l : Fin 128) :
    slabsRef (ropeRef t a) (ix4 b h s l) = rot z p (o + (128 * h.val + l.val)) := by
  have m : (o + (128 * h.val + l.val)) % 64 = l.val % 64 := by omega
  have n0 : o + (64 * (2 * h.val + l.val / 64) + l.val % 64) = o + (128 * h.val + l.val) := by omega
  have n1 : o + (64 * (2 * h.val + l.val / 64) + (8 + l.val % 64)) = o + (128 * h.val + l.val) + 8 := by omega
  unfold rot
  rw [slabsRef_apply, ropeRef_apply, m]
  by_cases c : l.val % 64 < 8
  · rw [dif_pos c, if_pos c, ht, ht, ha]
    dsimp only
    rw [n0, n1]
  · rw [dif_neg c, if_neg c]
    by_cases d : l.val % 64 < 16
    · have n2 : o + (64 * (2 * h.val + l.val / 64) + (l.val % 64 - 8)) = o + (128 * h.val + l.val) - 8 := by omega
      rw [dif_pos d, if_pos d, ht, ht, ha]
      dsimp only
      rw [n0, n2]
    · rw [dif_neg d, if_neg d, ht]
      dsimp only
      rw [n0]

/-- The heads' lanes are the projection's columns. -/
theorem heads_col (o : ℕ) (hs : S2x8192x2560.Slices ![0, 0, o] S2x8192x512) (e : o + 512 ≤ 2560) (z : FVec Ideal S2x8192x2560 .f32) (b : Fin 2) (s : Fin 8192) (h : Fin 8) (l : Fin 64) :
    headsRef o hs z (ix4 b s h l) = col (fun j : Fin 2560 => z (ix3 b s j)) (o + (64 * h.val + l.val)) :=
  (headsRef_apply o hs z b s h l e).trans (col_of (fun j : Fin 2560 => z (ix3 b s j)) _ _ rfl)

/-- A slab of the heads rotated. -/
theorem rot_ref (o : ℕ) (hs : S2x8192x2560.Slices ![0, 0, o] S2x8192x512) (e : o + 512 ≤ 2560) (eo : o % 64 = 0) (z : FVec Ideal S2x8192x2560 .f32) (p : IVec S2x8192 32)
    (b : Fin 2) (s : Fin 8192) (h : Fin 4) (l : Fin 128) :
    slabsRef (ropeRef (headsRef o hs z) (angRef p)) (ix4 b h s l)
      = rot (col (fun j : Fin 2560 => z (ix3 b s j))) (FloatOps.sitofp (F := Ideal) .f32 (p (ix2 b s))) (o + (128 * h.val + l.val)) :=
  rot_heads _ _ b s _ _ o eo (heads_col o hs e z b s) (angRef_apply p b s) h l

/-- A slab of the heads as they are. -/
theorem plain_ref (o : ℕ) (hs : S2x8192x2560.Slices ![0, 0, o] S2x8192x512) (e : o + 512 ≤ 2560) (z : FVec Ideal S2x8192x2560 .f32)
    (b : Fin 2) (s : Fin 8192) (h : Fin 4) (l : Fin 128) :
    slabsRef (headsRef o hs z) (ix4 b h s l) = col (fun j : Fin 2560 => z (ix3 b s j)) (o + (128 * h.val + l.val)) := by
  have hh := h.isLt
  have hl := l.isLt
  rw [slabsRef_apply, headsRef_apply o hs z _ _ _ _ e]
  refine col_of (fun j : Fin 2560 => z (ix3 b s j)) _ _ ?_
  show o + (128 * h.val + l.val) = o + (64 * (2 * h.val + l.val / 64) + l.val % 64)
  omega

theorem q_eq (m : (ℓ : Loc nD τ sig) → Buf (Elt Ideal) ℓ) (c : Dev nD) :
    res_main_v102 m c = slabsRef (ropeRef (headsRef 0 slices_S2x8192x2560_S2x8192x512_0_0_0 (projRef (rmsRef (m ((c.tc : Thread nD τ).loc main_arg0)) (m ((c.tc : Thread nD τ).loc main_arg1))) (m ((c.tc : Thread nD τ).loc main_arg2)))) (angRef (m ((c.tc : Thread nD τ).loc main_arg3)))) := rfl

theorem k_eq (m : (ℓ : Loc nD τ sig) → Buf (Elt Ideal) ℓ) (c : Dev nD) :
    res_main_v104 m c = slabsRef (ropeRef (headsRef 512 slices_S2x8192x2560_S2x8192x512_0_0_512 (projRef (rmsRef (m ((c.tc : Thread nD τ).loc main_arg0)) (m ((c.tc : Thread nD τ).loc main_arg1))) (m ((c.tc : Thread nD τ).loc main_arg2)))) (angRef (m ((c.tc : Thread nD τ).loc main_arg3)))) := rfl

end Cert.Mix

end
-- ==== Proof.Mix.Claim.lean ====
/- The claims about the first call: the reference runs and leaves its arguments, and the kernel's four results are the
   reference's. -/
module

public import proofs.«01_k».proof.Defs
public import proofs.«01_k».proof.Proof.Mix.Final
public import proofs.«01_k».proof.Proof.Mix.Ref
public import Idealize.ShloMosaic.Lib.Quiescent

@[expose] public section

set_option maxRecDepth 16384

noncomputable section

namespace Cert.Mix

open Idealize.ShloMosaic Idealize.ShloMosaic.TcCoe Idealize.ShloMosaic.StableHlo Idealize.SL.Sem

section Arrays

variable (x : FVec Ideal Cert.MixReferenceIdeal.S2x8192x1024 .f32) (g : FVec Ideal Cert.MixReferenceIdeal.S1024 .f32) (w : FVec Ideal Cert.MixReferenceIdeal.S1024x2560 .f32) (p : IVec Cert.MixReferenceIdeal.S2x8192 32)

theorem row_ref (b : Fin 2) (s : Fin 8192) : col (fun j : Fin 2560 => projRef (rmsRef x g) w (ix3 b s j)) = zall x g w b s :=
  congrArg col (funext fun j => z_ref x g w b s j)

/-- The reference's rotated columns are the kernel's. -/
theorem rot_all (o : ℕ) (hs : Cert.MixReferenceIdeal.S2x8192x2560.Slices ![0, 0, o] Cert.MixReferenceIdeal.S2x8192x512) (e : o + 512 ≤ 2560) (eo : o % 64 = 0) :
    slabsRef (ropeRef (headsRef o hs (projRef (rmsRef x g) w)) (angRef p)) = OutR x g w p o := by
  funext i
  have hi : i = ix4 (i 0) (i 1) (i 2) (i 3) := funext fun a => by fin_cases a <;> rfl
  have f : ∀ (b : Fin 2) (h : Fin 4) (s : Fin 8192) (l : Fin 128),
      slabsRef (ropeRef (headsRef o hs (projRef (rmsRef x g) w)) (angRef p)) (ix4 b h s l) = OutR x g w p o (ix4 b h s l) := by
    intro b h s l
    rw [rot_ref o hs e eo, row_ref]
    rfl
  exact (congrArg _ hi).trans ((f (i 0) (i 1) (i 2) (i 3)).trans (congrArg _ hi.symm))

/-- The reference's values are the kernel's. -/
theorem plain_all (hs : Cert.MixReferenceIdeal.S2x8192x2560.Slices ![0, 0, 1024] Cert.MixReferenceIdeal.S2x8192x512) : slabsRef (headsRef 1024 hs (projRef (rmsRef x g) w)) = OutV x g w := by
  funext i
  have hi : i = ix4 (i 0) (i 1) (i 2) (i 3) := funext fun a => by fin_cases a <;> rfl
  have f : ∀ (b : Fin 2) (h : Fin 4) (s : Fin 8192) (l : Fin 128),
      slabsRef (headsRef 1024 hs (projRef (rmsRef x g) w)) (ix4 b h s l) = OutV x g w (ix4 b h s l) := by
    intro b h s l
    rw [plain_ref 1024 hs (by omega), row_ref]
    rfl
  exact (congrArg _ hi).trans ((f (i 0) (i 1) (i 2) (i 3)).trans (congrArg _ hi.symm))

/-- The reference's gated linear unit is the kernel's. -/
theorem glu_all : gluRef (projRef (rmsRef x g) w) = OutG x g w := by
  funext i
  have hi : i = ix3 (i 0) (i 1) (i 2) := funext fun a => by fin_cases a <;> rfl
  have f : ∀ (b : Fin 2) (s : Fin 8192) (j : Fin 512), gluRef (projRef (rmsRef x g) w) (ix3 b s j) = OutG x g w (ix3 b s j) := by
    intro b s j
    have e : ∀ (k : Fin 2560) (n : ℕ), n = k.val → projRef (rmsRef x g) w (ix3 b s k) = zall x g w b s n := fun k n h =>
      (col_of (fun j : Fin 2560 => projRef (rmsRef x g) w (ix3 b s j)) n k h).trans (congrFun (row_ref x g w b s) n)
    rw [gluRef_apply, e _ (1536 + j.val) rfl, e _ (2048 + j.val) rfl]
    rfl
  exact (congrArg _ hi).trans ((f (i 0) (i 1) (i 2)).trans (congrArg _ hi.symm))

end Arrays

/-- The reference runs and leaves its arguments. -/
theorem ref_frame : Cert.quiescent_MixReferenceIdeal := fun m g _ =>
  (θ_run _ _ _).mono (fun _ h => ⟨fun c => (h c).2.2.2.2, sem_eq_zero_of_no_sems (by decide) _⟩) (Cert.MixReferenceIdeal.Value.run m g)

/-- The kernel's results are the reference's. -/
theorem equal : Cert.algebraic_MixKernelIdeal_MixReferenceIdeal := by
  intro m g m' g' hpre hargs
  refine ⟨fun c => OutR (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) 0, fun c => OutR (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) 512, fun c => OutV (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)), fun c => OutG (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)),
    (θ_run _ _ _).mono (fun r h c => ⟨(h c).1.trans (final5 m c), (h c).2.1.trans (final6 m c), (h c).2.2.1.trans (final7 m c), (h c).2.2.2.1.trans (final8 m c), (h c).2.2.2.2⟩) (Cert.MixKernelIdeal.Value.run_blocks m g),
    (θ_run _ _ _).mono (fun r h c => ?_) (Cert.MixReferenceIdeal.Value.run m' g')⟩
  obtain ⟨e0, e1, e2, e3⟩ := hargs c
  refine ⟨(h c).1.trans ?_, (h c).2.1.trans ?_, (h c).2.2.1.trans ?_, (h c).2.2.2.1.trans ?_, (h c).2.2.2.2⟩
  · refine (q_eq m' c).trans ((rot_all _ _ _ _ 0 _ (by omega) rfl).trans ?_)
    rw [e0, e1, e2, e3]
  · refine (k_eq m' c).trans ((rot_all _ _ _ _ 512 _ (by omega) rfl).trans ?_)
    rw [e0, e1, e2, e3]
  · refine Eq.trans ?_ ((plain_all (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2)) Cert.MixReferenceIdeal.Gen.slices_S2x8192x2560_S2x8192x512_0_0_1024).trans ?_)
    · rfl
    · rw [e0, e1, e2]
  · refine Eq.trans ?_ ((glu_all (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2))).trans ?_)
    · rfl
    · rw [e0, e1, e2]

end Cert.Mix

end
-- ==== Proof.lean ====
/- The claims of the statement, put together: each call's values from its `Claim` module, the frames from the modules
   generated beside them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.PleKernel.Frame
public import proofs.«01_k».proof.Proof.Gen.PleKernelIdeal.Frame
public import proofs.«01_k».proof.Proof.Gen.PleKernelIdeal.Value
public import proofs.«01_k».proof.Proof.Gen.PleReferenceIdeal.Run
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal.Run
public import proofs.«01_k».proof.Proof.Attn.Claim
public import proofs.«01_k».proof.Proof.Ple.Claim
public import proofs.«01_k».proof.Proof.Mix.Claim
public import Idealize.ShloMosaic.Adequacy
public import Idealize.ShloMosaic.Init

@[expose] public section

noncomputable section

namespace Cert.Proof

open Idealize.ShloMosaic Idealize.SL.Sem Cert.Kernel

/-- Everything the statement claims. -/
theorem claim : Cert.Claim := ⟨Cert.Kernel.Gen.facts, Cert.KernelIdeal.Gen.facts, Cert.ReferenceIdeal.Gen.facts,
  Cert.PleKernel.Gen.facts, Cert.PleKernelIdeal.Gen.facts, Cert.PleReferenceIdeal.Gen.facts,
  Cert.MixKernel.Gen.facts, Cert.MixKernelIdeal.Gen.facts, Cert.MixReferenceIdeal.Gen.facts, Cert.Pre_finite.Gen.facts,
  fun m g _ => Cert.Kernel.Gen.frame m g,
  fun m g _ => Cert.KernelIdeal.Gen.frame m g, fun m g _ => Cert.KernelIdeal.Gen.frame m g,
  fun m g _ => Cert.Attn.ref_frame m g, fun m g _ => Cert.Attn.ref_frame m g,
  fun m g _ => Cert.PleKernel.Gen.frame m g, fun m g _ => Cert.PleKernelIdeal.Gen.frame m g, Cert.Ple.ref_frame,
  fun m g _ => Cert.MixKernel.Gen.frame m g, fun m g _ => Cert.MixKernelIdeal.Gen.frame m g, Cert.Mix.ref_frame,
  trivial, Cert.Attn.equal, trivial, Cert.Ple.equal, trivial, Cert.Mix.equal⟩

end Cert.Proof

end
